-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S1024x512 : Shape := ⟨2, ![1024, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S4 : Shape := ⟨1, ![4]⟩
abbrev S_ : Shape := ⟨0, ![]⟩
abbrev S256x1024 : Shape := ⟨2, ![256, 1024]⟩
abbrev S1 : Shape := ⟨1, ![1]⟩

abbrev nBuf : Space → Nat
  | .hbm => 4
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512x1024, .f32⟩
  | .hbm, ⟨2, _⟩ => ⟨S1024x512, .f32⟩
  | .hbm, ⟨3, _⟩ => ⟨S512x512, .f32⟩
  | .local _ .vmem, ⟨0, _⟩ => ⟨S512x512, .f32⟩
  | .local _ .vmem, ⟨1, _⟩ => ⟨S512x1024, .f32⟩
  | .local _ .vmem, ⟨2, _⟩ => ⟨S1024x512, .f32⟩
  | .local _ .vmem, ⟨3, _⟩ => ⟨S512x512, .f32⟩
  | .local _ .vmem, ⟨4, _⟩ => ⟨S512x512, .f32⟩
  | .local _ .vmem, ⟨5, _⟩ => ⟨S256x512, .f32⟩
  | .local _ .vmem, ⟨6, _⟩ => ⟨S128x512, .f32⟩
  | .local _ .vmem, ⟨7, _⟩ => ⟨S64x512, .f32⟩
  | .local _ .vmem, ⟨8, _⟩ => ⟨S32x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_39 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_10 : BitVec 32 := 1#32
  let v29 : BitVec 32 := Scalar.xori v28 c1_i32_10
  let c2_i32_14 : BitVec 32 := 2#32
  let v33 : BitVec 32 := Scalar.shrsi v29 c2_i32_14
  let v37 : BitVec 32 := Scalar.muli c4_i32_16 v33
  let c1_i32_11 : BitVec 32 := 1#32
  let v30 : BitVec 32 := Scalar.andi v29 c1_i32_11
  let c1_i32_12 : BitVec 32 := 1#32
  let v31 : BitVec 32 := Scalar.shrsi v29 c1_i32_12
  let c1_i32_13 : BitVec 32 := 1#32
  let v32 : BitVec 32 := Scalar.andi v31 c1_i32_13
  let v34 : BitVec 32 := Scalar.xori v30 v32
  let c2_i32_15 : BitVec 32 := 2#32
  let v35 : BitVec 32 := Scalar.muli c2_i32_15 v32
  let v36 : BitVec 32 := Scalar.addi v34 v35
  let v38 : BitVec 32 := Scalar.addi v37 v36
  let c1_i32_38 : BitVec 32 := 1#32
  let v70 : BitVec 32 := Scalar.muli v38 c1_i32_38
  let v71 : BitVec 32 := Scalar.addi c0_i32_39 v70
  v71.toNat
def k0_dev2 (d0 : Dev nD) : Nat :=
  let c0_i32_42 : BitVec 32 := 0#32
  let c4_i32_23 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c2_i32_17 : BitVec 32 := 2#32
  let v39 : BitVec 32 := Scalar.xori v28 c2_i32_17
  let c2_i32_21 : BitVec 32 := 2#32
  let v43 : BitVec 32 := Scalar.shrsi v39 c2_i32_21
  let v47 : BitVec 32 := Scalar.muli c4_i32_23 v43
  let c1_i32_18 : BitVec 32 := 1#32
  let v40 : BitVec 32 := Scalar.andi v39 c1_i32_18
  let c1_i32_19 : BitVec 32 := 1#32
  let v41 : BitVec 32 := Scalar.shrsi v39 c1_i32_19
  let c1_i32_20 : BitVec 32 := 1#32
  let v42 : BitVec 32 := Scalar.andi v41 c1_i32_20
  let v44 : BitVec 32 := Scalar.xori v40 v42
  let c2_i32_22 : BitVec 32 := 2#32
  let v45 : BitVec 32 := Scalar.muli c2_i32_22 v42
  let v46 : BitVec 32 := Scalar.addi v44 v45
  let v48 : BitVec 32 := Scalar.addi v47 v46
  let c1_i32_41 : BitVec 32 := 1#32
  let v72 : BitVec 32 := Scalar.muli v48 c1_i32_41
  let v73 : BitVec 32 := Scalar.addi c0_i32_42 v72
  v73.toNat
def k0_dev3 (d0 : Dev nD) : Nat :=
  let c0_i32_45 : BitVec 32 := 0#32
  let c4_i32_30 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c4_i32_24 : BitVec 32 := 4#32
  let v49 : BitVec 32 := Scalar.xori v28 c4_i32_24
  let c2_i32_28 : BitVec 32 := 2#32
  let v53 : BitVec 32 := Scalar.shrsi v49 c2_i32_28
  let v57 : BitVec 32 := Scalar.muli c4_i32_30 v53
  let c1_i32_25 : BitVec 32 := 1#32
  let v50 : BitVec 32 := Scalar.andi v49 c1_i32_25
  let c1_i32_26 : BitVec 32 := 1#32
  let v51 : BitVec 32 := Scalar.shrsi v49 c1_i32_26
  let c1_i32_27 : BitVec 32 := 1#32
  let v52 : BitVec 32 := Scalar.andi v51 c1_i32_27
  let v54 : BitVec 32 := Scalar.xori v50 v52
  let c2_i32_29 : BitVec 32 := 2#32
  let v55 : BitVec 32 := Scalar.muli c2_i32_29 v52
  let v56 : BitVec 32 := Scalar.addi v54 v55
  let v58 : BitVec 32 := Scalar.addi v57 v56
  let c1_i32_44 : BitVec 32 := 1#32
  let v74 : BitVec 32 := Scalar.muli v58 c1_i32_44
  let v75 : BitVec 32 := Scalar.addi c0_i32_45 v74
  v75.toNat
def k0_dev4 (d0 : Dev nD) : Nat :=
  let c0_i32_48 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c8_i32 : BitVec 32 := 8#32
  let v59 : BitVec 32 := Scalar.xori v28 c8_i32
  let c2_i32_34 : BitVec 32 := 2#32
  let v63 : BitVec 32 := Scalar.shrsi v59 c2_i32_34
  let v67 : BitVec 32 := Scalar.muli c4_i32_36 v63
  let c1_i32_31 : BitVec 32 := 1#32
  let v60 : BitVec 32 := Scalar.andi v59 c1_i32_31
  let c1_i32_32 : BitVec 32 := 1#32
  let v61 : BitVec 32 := Scalar.shrsi v59 c1_i32_32
  let c1_i32_33 : BitVec 32 := 1#32
  let v62 : BitVec 32 := Scalar.andi v61 c1_i32_33
  let v64 : BitVec 32 := Scalar.xori v60 v62
  let c2_i32_35 : BitVec 32 := 2#32
  let v65 : BitVec 32 := Scalar.muli c2_i32_35 v62
  let v66 : BitVec 32 := Scalar.addi v64 v65
  let v68 : BitVec 32 := Scalar.addi v67 v66
  let c1_i32_47 : BitVec 32 := 1#32
  let v76 : BitVec 32 := Scalar.muli v68 c1_i32_47
  let v77 : BitVec 32 := Scalar.addi c0_i32_48 v76
  v77.toNat
def k0_off1 (d0 : Dev nD) : Fin 2 → Nat :=
  let c1_i32_51 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let v79 : BitVec 32 := Scalar.subi c1_i32_51 v78
  let c256_i32 : BitVec 32 := 256#32
  let v80 : BitVec 32 := Scalar.muli v79 c256_i32
  let v82 : Index := Scalar.indexCast v80
  let c0 : Index := 0#32
  ![v82.toNat, 0]
def k0_off2 (d0 : Dev nD) : Fin 2 → Nat :=
  let c1_i32_51 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let v79 : BitVec 32 := Scalar.subi c1_i32_51 v78
  let c256_i32 : BitVec 32 := 256#32
  let v80 : BitVec 32 := Scalar.muli v79 c256_i32
  let c0_i32_64 : BitVec 32 := 0#32
  ![v80.toNat, 0]
def k0_dev5 (d0 : Dev nD) : Nat :=
  let c0_i32_63 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_10 : BitVec 32 := 1#32
  let v29 : BitVec 32 := Scalar.xori v28 c1_i32_10
  let c2_i32_14 : BitVec 32 := 2#32
  let v33 : BitVec 32 := Scalar.shrsi v29 c2_i32_14
  let v37 : BitVec 32 := Scalar.muli c4_i32_16 v33
  let c1_i32_11 : BitVec 32 := 1#32
  let v30 : BitVec 32 := Scalar.andi v29 c1_i32_11
  let c1_i32_12 : BitVec 32 := 1#32
  let v31 : BitVec 32 := Scalar.shrsi v29 c1_i32_12
  let c1_i32_13 : BitVec 32 := 1#32
  let v32 : BitVec 32 := Scalar.andi v31 c1_i32_13
  let v34 : BitVec 32 := Scalar.xori v30 v32
  let c2_i32_15 : BitVec 32 := 2#32
  let v35 : BitVec 32 := Scalar.muli c2_i32_15 v32
  let v36 : BitVec 32 := Scalar.addi v34 v35
  let v38 : BitVec 32 := Scalar.addi v37 v36
  let c1_i32_62 : BitVec 32 := 1#32
  let v97 : BitVec 32 := Scalar.muli v38 c1_i32_62
  let v98 : BitVec 32 := Scalar.addi c0_i32_63 v97
  v98.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let c256_i32_52 : BitVec 32 := 256#32
  let v81 : BitVec 32 := Scalar.muli v78 c256_i32_52
  let v104 : Index := Scalar.indexCast v81
  let c0_65 : Index := 0#32
  ![v104.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let c256_i32_52 : BitVec 32 := 256#32
  let v81 : BitVec 32 := Scalar.muli v78 c256_i32_52
  let c1_i32_85 : BitVec 32 := 1#32
  let c1_i32_83 : BitVec 32 := 1#32
  let v132 : BitVec 32 := Scalar.shrsi v28 c1_i32_83
  let c1_i32_84 : BitVec 32 := 1#32
  let v133 : BitVec 32 := Scalar.andi v132 c1_i32_84
  let v134 : BitVec 32 := Scalar.subi c1_i32_85 v133
  let c128_i32 : BitVec 32 := 128#32
  let v135 : BitVec 32 := Scalar.muli v134 c128_i32
  let v136 : BitVec 32 := Scalar.addi v81 v135
  let c0_i32_91 : BitVec 32 := 0#32
  ![v136.toNat, 0]
def k0_dev6 (d0 : Dev nD) : Nat :=
  let c0_i32_90 : BitVec 32 := 0#32
  let c4_i32_23 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c2_i32_17 : BitVec 32 := 2#32
  let v39 : BitVec 32 := Scalar.xori v28 c2_i32_17
  let c2_i32_21 : BitVec 32 := 2#32
  let v43 : BitVec 32 := Scalar.shrsi v39 c2_i32_21
  let v47 : BitVec 32 := Scalar.muli c4_i32_23 v43
  let c1_i32_18 : BitVec 32 := 1#32
  let v40 : BitVec 32 := Scalar.andi v39 c1_i32_18
  let c1_i32_19 : BitVec 32 := 1#32
  let v41 : BitVec 32 := Scalar.shrsi v39 c1_i32_19
  let c1_i32_20 : BitVec 32 := 1#32
  let v42 : BitVec 32 := Scalar.andi v41 c1_i32_20
  let v44 : BitVec 32 := Scalar.xori v40 v42
  let c2_i32_22 : BitVec 32 := 2#32
  let v45 : BitVec 32 := Scalar.muli c2_i32_22 v42
  let v46 : BitVec 32 := Scalar.addi v44 v45
  let v48 : BitVec 32 := Scalar.addi v47 v46
  let c1_i32_89 : BitVec 32 := 1#32
  let v139 : BitVec 32 := Scalar.muli v48 c1_i32_89
  let v140 : BitVec 32 := Scalar.addi c0_i32_90 v139
  v140.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let c256_i32_52 : BitVec 32 := 256#32
  let v81 : BitVec 32 := Scalar.muli v78 c256_i32_52
  let c1_i32_83 : BitVec 32 := 1#32
  let v132 : BitVec 32 := Scalar.shrsi v28 c1_i32_83
  let c1_i32_84 : BitVec 32 := 1#32
  let v133 : BitVec 32 := Scalar.andi v132 c1_i32_84
  let c128_i32_86 : BitVec 32 := 128#32
  let v137 : BitVec 32 := Scalar.muli v133 c128_i32_86
  let v138 : BitVec 32 := Scalar.addi v81 v137
  let v151 : Index := Scalar.indexCast v138
  let c0_97 : Index := 0#32
  ![v151.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let c256_i32_52 : BitVec 32 := 256#32
  let v81 : BitVec 32 := Scalar.muli v78 c256_i32_52
  let c1_i32_83 : BitVec 32 := 1#32
  let v132 : BitVec 32 := Scalar.shrsi v28 c1_i32_83
  let c1_i32_84 : BitVec 32 := 1#32
  let v133 : BitVec 32 := Scalar.andi v132 c1_i32_84
  let c128_i32_86 : BitVec 32 := 128#32
  let v137 : BitVec 32 := Scalar.muli v133 c128_i32_86
  let v138 : BitVec 32 := Scalar.addi v81 v137
  let c1_i32_103 : BitVec 32 := 1#32
  let c2_i32_101 : BitVec 32 := 2#32
  let v159 : BitVec 32 := Scalar.shrsi v28 c2_i32_101
  let c1_i32_102 : BitVec 32 := 1#32
  let v160 : BitVec 32 := Scalar.andi v159 c1_i32_102
  let v161 : BitVec 32 := Scalar.subi c1_i32_103 v160
  let c64_i32 : BitVec 32 := 64#32
  let v162 : BitVec 32 := Scalar.muli v161 c64_i32
  let v163 : BitVec 32 := Scalar.addi v138 v162
  let c0_i32_109 : BitVec 32 := 0#32
  ![v163.toNat, 0]
def k0_dev7 (d0 : Dev nD) : Nat :=
  let c0_i32_108 : BitVec 32 := 0#32
  let c4_i32_30 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c4_i32_24 : BitVec 32 := 4#32
  let v49 : BitVec 32 := Scalar.xori v28 c4_i32_24
  let c2_i32_28 : BitVec 32 := 2#32
  let v53 : BitVec 32 := Scalar.shrsi v49 c2_i32_28
  let v57 : BitVec 32 := Scalar.muli c4_i32_30 v53
  let c1_i32_25 : BitVec 32 := 1#32
  let v50 : BitVec 32 := Scalar.andi v49 c1_i32_25
  let c1_i32_26 : BitVec 32 := 1#32
  let v51 : BitVec 32 := Scalar.shrsi v49 c1_i32_26
  let c1_i32_27 : BitVec 32 := 1#32
  let v52 : BitVec 32 := Scalar.andi v51 c1_i32_27
  let v54 : BitVec 32 := Scalar.xori v50 v52
  let c2_i32_29 : BitVec 32 := 2#32
  let v55 : BitVec 32 := Scalar.muli c2_i32_29 v52
  let v56 : BitVec 32 := Scalar.addi v54 v55
  let v58 : BitVec 32 := Scalar.addi v57 v56
  let c1_i32_107 : BitVec 32 := 1#32
  let v166 : BitVec 32 := Scalar.muli v58 c1_i32_107
  let v167 : BitVec 32 := Scalar.addi c0_i32_108 v166
  v167.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let c256_i32_52 : BitVec 32 := 256#32
  let v81 : BitVec 32 := Scalar.muli v78 c256_i32_52
  let c1_i32_83 : BitVec 32 := 1#32
  let v132 : BitVec 32 := Scalar.shrsi v28 c1_i32_83
  let c1_i32_84 : BitVec 32 := 1#32
  let v133 : BitVec 32 := Scalar.andi v132 c1_i32_84
  let c128_i32_86 : BitVec 32 := 128#32
  let v137 : BitVec 32 := Scalar.muli v133 c128_i32_86
  let v138 : BitVec 32 := Scalar.addi v81 v137
  let c2_i32_101 : BitVec 32 := 2#32
  let v159 : BitVec 32 := Scalar.shrsi v28 c2_i32_101
  let c1_i32_102 : BitVec 32 := 1#32
  let v160 : BitVec 32 := Scalar.andi v159 c1_i32_102
  let c64_i32_104 : BitVec 32 := 64#32
  let v164 : BitVec 32 := Scalar.muli v160 c64_i32_104
  let v165 : BitVec 32 := Scalar.addi v138 v164
  let v178 : Index := Scalar.indexCast v165
  let c0_115 : Index := 0#32
  ![v178.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let c256_i32_52 : BitVec 32 := 256#32
  let v81 : BitVec 32 := Scalar.muli v78 c256_i32_52
  let c1_i32_83 : BitVec 32 := 1#32
  let v132 : BitVec 32 := Scalar.shrsi v28 c1_i32_83
  let c1_i32_84 : BitVec 32 := 1#32
  let v133 : BitVec 32 := Scalar.andi v132 c1_i32_84
  let c128_i32_86 : BitVec 32 := 128#32
  let v137 : BitVec 32 := Scalar.muli v133 c128_i32_86
  let v138 : BitVec 32 := Scalar.addi v81 v137
  let c2_i32_101 : BitVec 32 := 2#32
  let v159 : BitVec 32 := Scalar.shrsi v28 c2_i32_101
  let c1_i32_102 : BitVec 32 := 1#32
  let v160 : BitVec 32 := Scalar.andi v159 c1_i32_102
  let c64_i32_104 : BitVec 32 := 64#32
  let v164 : BitVec 32 := Scalar.muli v160 c64_i32_104
  let v165 : BitVec 32 := Scalar.addi v138 v164
  let c1_i32_120 : BitVec 32 := 1#32
  let c3_i32 : BitVec 32 := 3#32
  let v186 : BitVec 32 := Scalar.shrsi v28 c3_i32
  let c1_i32_119 : BitVec 32 := 1#32
  let v187 : BitVec 32 := Scalar.andi v186 c1_i32_119
  let v188 : BitVec 32 := Scalar.subi c1_i32_120 v187
  let c32_i32 : BitVec 32 := 32#32
  let v189 : BitVec 32 := Scalar.muli v188 c32_i32
  let v190 : BitVec 32 := Scalar.addi v165 v189
  let c0_i32_126 : BitVec 32 := 0#32
  ![v190.toNat, 0]
def k0_dev8 (d0 : Dev nD) : Nat :=
  let c0_i32_125 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c8_i32 : BitVec 32 := 8#32
  let v59 : BitVec 32 := Scalar.xori v28 c8_i32
  let c2_i32_34 : BitVec 32 := 2#32
  let v63 : BitVec 32 := Scalar.shrsi v59 c2_i32_34
  let v67 : BitVec 32 := Scalar.muli c4_i32_36 v63
  let c1_i32_31 : BitVec 32 := 1#32
  let v60 : BitVec 32 := Scalar.andi v59 c1_i32_31
  let c1_i32_32 : BitVec 32 := 1#32
  let v61 : BitVec 32 := Scalar.shrsi v59 c1_i32_32
  let c1_i32_33 : BitVec 32 := 1#32
  let v62 : BitVec 32 := Scalar.andi v61 c1_i32_33
  let v64 : BitVec 32 := Scalar.xori v60 v62
  let c2_i32_35 : BitVec 32 := 2#32
  let v65 : BitVec 32 := Scalar.muli c2_i32_35 v62
  let v66 : BitVec 32 := Scalar.addi v64 v65
  let v68 : BitVec 32 := Scalar.addi v67 v66
  let c1_i32_124 : BitVec 32 := 1#32
  let v193 : BitVec 32 := Scalar.muli v68 c1_i32_124
  let v194 : BitVec 32 := Scalar.addi c0_i32_125 v193
  v194.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let c256_i32_52 : BitVec 32 := 256#32
  let v81 : BitVec 32 := Scalar.muli v78 c256_i32_52
  let c1_i32_83 : BitVec 32 := 1#32
  let v132 : BitVec 32 := Scalar.shrsi v28 c1_i32_83
  let c1_i32_84 : BitVec 32 := 1#32
  let v133 : BitVec 32 := Scalar.andi v132 c1_i32_84
  let c128_i32_86 : BitVec 32 := 128#32
  let v137 : BitVec 32 := Scalar.muli v133 c128_i32_86
  let v138 : BitVec 32 := Scalar.addi v81 v137
  let c2_i32_101 : BitVec 32 := 2#32
  let v159 : BitVec 32 := Scalar.shrsi v28 c2_i32_101
  let c1_i32_102 : BitVec 32 := 1#32
  let v160 : BitVec 32 := Scalar.andi v159 c1_i32_102
  let c64_i32_104 : BitVec 32 := 64#32
  let v164 : BitVec 32 := Scalar.muli v160 c64_i32_104
  let v165 : BitVec 32 := Scalar.addi v138 v164
  let c3_i32 : BitVec 32 := 3#32
  let v186 : BitVec 32 := Scalar.shrsi v28 c3_i32
  let c1_i32_119 : BitVec 32 := 1#32
  let v187 : BitVec 32 := Scalar.andi v186 c1_i32_119
  let c32_i32_121 : BitVec 32 := 32#32
  let v191 : BitVec 32 := Scalar.muli v187 c32_i32_121
  let v192 : BitVec 32 := Scalar.addi v165 v191
  let v205 : Index := Scalar.indexCast v192
  let c0_132 : Index := 0#32
  ![v205.toNat, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let c256_i32_52 : BitVec 32 := 256#32
  let v81 : BitVec 32 := Scalar.muli v78 c256_i32_52
  let c1_i32_83 : BitVec 32 := 1#32
  let v132 : BitVec 32 := Scalar.shrsi v28 c1_i32_83
  let c1_i32_84 : BitVec 32 := 1#32
  let v133 : BitVec 32 := Scalar.andi v132 c1_i32_84
  let c128_i32_86 : BitVec 32 := 128#32
  let v137 : BitVec 32 := Scalar.muli v133 c128_i32_86
  let v138 : BitVec 32 := Scalar.addi v81 v137
  let c2_i32_101 : BitVec 32 := 2#32
  let v159 : BitVec 32 := Scalar.shrsi v28 c2_i32_101
  let c1_i32_102 : BitVec 32 := 1#32
  let v160 : BitVec 32 := Scalar.andi v159 c1_i32_102
  let c64_i32_104 : BitVec 32 := 64#32
  let v164 : BitVec 32 := Scalar.muli v160 c64_i32_104
  let v165 : BitVec 32 := Scalar.addi v138 v164
  let c3_i32 : BitVec 32 := 3#32
  let v186 : BitVec 32 := Scalar.shrsi v28 c3_i32
  let c1_i32_119 : BitVec 32 := 1#32
  let v187 : BitVec 32 := Scalar.andi v186 c1_i32_119
  let c32_i32_121 : BitVec 32 := 32#32
  let v191 : BitVec 32 := Scalar.muli v187 c32_i32_121
  let v192 : BitVec 32 := Scalar.addi v165 v191
  let c0_i32_144 : BitVec 32 := 0#32
  ![v192.toNat, 0]
def k0_dev9 (d0 : Dev nD) : Nat :=
  let c0_i32_143 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c8_i32 : BitVec 32 := 8#32
  let v59 : BitVec 32 := Scalar.xori v28 c8_i32
  let c2_i32_34 : BitVec 32 := 2#32
  let v63 : BitVec 32 := Scalar.shrsi v59 c2_i32_34
  let v67 : BitVec 32 := Scalar.muli c4_i32_36 v63
  let c1_i32_31 : BitVec 32 := 1#32
  let v60 : BitVec 32 := Scalar.andi v59 c1_i32_31
  let c1_i32_32 : BitVec 32 := 1#32
  let v61 : BitVec 32 := Scalar.shrsi v59 c1_i32_32
  let c1_i32_33 : BitVec 32 := 1#32
  let v62 : BitVec 32 := Scalar.andi v61 c1_i32_33
  let v64 : BitVec 32 := Scalar.xori v60 v62
  let c2_i32_35 : BitVec 32 := 2#32
  let v65 : BitVec 32 := Scalar.muli c2_i32_35 v62
  let v66 : BitVec 32 := Scalar.addi v64 v65
  let v68 : BitVec 32 := Scalar.addi v67 v66
  let c1_i32_142 : BitVec 32 := 1#32
  let v219 : BitVec 32 := Scalar.muli v68 c1_i32_142
  let v220 : BitVec 32 := Scalar.addi c0_i32_143 v219
  v220.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let c256_i32_52 : BitVec 32 := 256#32
  let v81 : BitVec 32 := Scalar.muli v78 c256_i32_52
  let c1_i32_83 : BitVec 32 := 1#32
  let v132 : BitVec 32 := Scalar.shrsi v28 c1_i32_83
  let c1_i32_84 : BitVec 32 := 1#32
  let v133 : BitVec 32 := Scalar.andi v132 c1_i32_84
  let c128_i32_86 : BitVec 32 := 128#32
  let v137 : BitVec 32 := Scalar.muli v133 c128_i32_86
  let v138 : BitVec 32 := Scalar.addi v81 v137
  let c2_i32_101 : BitVec 32 := 2#32
  let v159 : BitVec 32 := Scalar.shrsi v28 c2_i32_101
  let c1_i32_102 : BitVec 32 := 1#32
  let v160 : BitVec 32 := Scalar.andi v159 c1_i32_102
  let c64_i32_104 : BitVec 32 := 64#32
  let v164 : BitVec 32 := Scalar.muli v160 c64_i32_104
  let v165 : BitVec 32 := Scalar.addi v138 v164
  let c3_i32 : BitVec 32 := 3#32
  let v186 : BitVec 32 := Scalar.shrsi v28 c3_i32
  let c1_i32_119 : BitVec 32 := 1#32
  let v187 : BitVec 32 := Scalar.andi v186 c1_i32_119
  let c32_i32_121 : BitVec 32 := 32#32
  let v191 : BitVec 32 := Scalar.muli v187 c32_i32_121
  let v192 : BitVec 32 := Scalar.addi v165 v191
  let c3_i32_138 : BitVec 32 := 3#32
  let v217 : BitVec 32 := Scalar.shrsi v28 c3_i32_138
  let c1_i32_139 : BitVec 32 := 1#32
  let v218 : BitVec 32 := Scalar.andi v217 c1_i32_139
  let c32_i32_152 : BitVec 32 := 32#32
  let v233 : BitVec 32 := Scalar.muli v218 c32_i32_152
  let v234 : BitVec 32 := Scalar.subi v192 v233
  let c0_i32_159 : BitVec 32 := 0#32
  ![v234.toNat, 0]
def k0_dev10 (d0 : Dev nD) : Nat :=
  let c0_i32_158 : BitVec 32 := 0#32
  let c4_i32_30 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c4_i32_24 : BitVec 32 := 4#32
  let v49 : BitVec 32 := Scalar.xori v28 c4_i32_24
  let c2_i32_28 : BitVec 32 := 2#32
  let v53 : BitVec 32 := Scalar.shrsi v49 c2_i32_28
  let v57 : BitVec 32 := Scalar.muli c4_i32_30 v53
  let c1_i32_25 : BitVec 32 := 1#32
  let v50 : BitVec 32 := Scalar.andi v49 c1_i32_25
  let c1_i32_26 : BitVec 32 := 1#32
  let v51 : BitVec 32 := Scalar.shrsi v49 c1_i32_26
  let c1_i32_27 : BitVec 32 := 1#32
  let v52 : BitVec 32 := Scalar.andi v51 c1_i32_27
  let v54 : BitVec 32 := Scalar.xori v50 v52
  let c2_i32_29 : BitVec 32 := 2#32
  let v55 : BitVec 32 := Scalar.muli c2_i32_29 v52
  let v56 : BitVec 32 := Scalar.addi v54 v55
  let v58 : BitVec 32 := Scalar.addi v57 v56
  let c1_i32_157 : BitVec 32 := 1#32
  let v237 : BitVec 32 := Scalar.muli v58 c1_i32_157
  let v238 : BitVec 32 := Scalar.addi c0_i32_158 v237
  v238.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let c256_i32_52 : BitVec 32 := 256#32
  let v81 : BitVec 32 := Scalar.muli v78 c256_i32_52
  let c1_i32_83 : BitVec 32 := 1#32
  let v132 : BitVec 32 := Scalar.shrsi v28 c1_i32_83
  let c1_i32_84 : BitVec 32 := 1#32
  let v133 : BitVec 32 := Scalar.andi v132 c1_i32_84
  let c128_i32_86 : BitVec 32 := 128#32
  let v137 : BitVec 32 := Scalar.muli v133 c128_i32_86
  let v138 : BitVec 32 := Scalar.addi v81 v137
  let c2_i32_101 : BitVec 32 := 2#32
  let v159 : BitVec 32 := Scalar.shrsi v28 c2_i32_101
  let c1_i32_102 : BitVec 32 := 1#32
  let v160 : BitVec 32 := Scalar.andi v159 c1_i32_102
  let c64_i32_104 : BitVec 32 := 64#32
  let v164 : BitVec 32 := Scalar.muli v160 c64_i32_104
  let v165 : BitVec 32 := Scalar.addi v138 v164
  let c3_i32 : BitVec 32 := 3#32
  let v186 : BitVec 32 := Scalar.shrsi v28 c3_i32
  let c1_i32_119 : BitVec 32 := 1#32
  let v187 : BitVec 32 := Scalar.andi v186 c1_i32_119
  let c32_i32_121 : BitVec 32 := 32#32
  let v191 : BitVec 32 := Scalar.muli v187 c32_i32_121
  let v192 : BitVec 32 := Scalar.addi v165 v191
  let c3_i32_138 : BitVec 32 := 3#32
  let v217 : BitVec 32 := Scalar.shrsi v28 c3_i32_138
  let c1_i32_139 : BitVec 32 := 1#32
  let v218 : BitVec 32 := Scalar.andi v217 c1_i32_139
  let c32_i32_152 : BitVec 32 := 32#32
  let v233 : BitVec 32 := Scalar.muli v218 c32_i32_152
  let v234 : BitVec 32 := Scalar.subi v192 v233
  let c2_i32_153 : BitVec 32 := 2#32
  let v235 : BitVec 32 := Scalar.shrsi v28 c2_i32_153
  let c1_i32_154 : BitVec 32 := 1#32
  let v236 : BitVec 32 := Scalar.andi v235 c1_i32_154
  let c64_i32_167 : BitVec 32 := 64#32
  let v251 : BitVec 32 := Scalar.muli v236 c64_i32_167
  let v252 : BitVec 32 := Scalar.subi v234 v251
  let c0_i32_174 : BitVec 32 := 0#32
  ![v252.toNat, 0]
def k0_dev11 (d0 : Dev nD) : Nat :=
  let c0_i32_173 : BitVec 32 := 0#32
  let c4_i32_23 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c2_i32_17 : BitVec 32 := 2#32
  let v39 : BitVec 32 := Scalar.xori v28 c2_i32_17
  let c2_i32_21 : BitVec 32 := 2#32
  let v43 : BitVec 32 := Scalar.shrsi v39 c2_i32_21
  let v47 : BitVec 32 := Scalar.muli c4_i32_23 v43
  let c1_i32_18 : BitVec 32 := 1#32
  let v40 : BitVec 32 := Scalar.andi v39 c1_i32_18
  let c1_i32_19 : BitVec 32 := 1#32
  let v41 : BitVec 32 := Scalar.shrsi v39 c1_i32_19
  let c1_i32_20 : BitVec 32 := 1#32
  let v42 : BitVec 32 := Scalar.andi v41 c1_i32_20
  let v44 : BitVec 32 := Scalar.xori v40 v42
  let c2_i32_22 : BitVec 32 := 2#32
  let v45 : BitVec 32 := Scalar.muli c2_i32_22 v42
  let v46 : BitVec 32 := Scalar.addi v44 v45
  let v48 : BitVec 32 := Scalar.addi v47 v46
  let c1_i32_172 : BitVec 32 := 1#32
  let v255 : BitVec 32 := Scalar.muli v48 c1_i32_172
  let v256 : BitVec 32 := Scalar.addi c0_i32_173 v255
  v256.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_50 : BitVec 32 := 1#32
  let v78 : BitVec 32 := Scalar.andi v28 c1_i32_50
  let c256_i32_52 : BitVec 32 := 256#32
  let v81 : BitVec 32 := Scalar.muli v78 c256_i32_52
  let c1_i32_83 : BitVec 32 := 1#32
  let v132 : BitVec 32 := Scalar.shrsi v28 c1_i32_83
  let c1_i32_84 : BitVec 32 := 1#32
  let v133 : BitVec 32 := Scalar.andi v132 c1_i32_84
  let c128_i32_86 : BitVec 32 := 128#32
  let v137 : BitVec 32 := Scalar.muli v133 c128_i32_86
  let v138 : BitVec 32 := Scalar.addi v81 v137
  let c2_i32_101 : BitVec 32 := 2#32
  let v159 : BitVec 32 := Scalar.shrsi v28 c2_i32_101
  let c1_i32_102 : BitVec 32 := 1#32
  let v160 : BitVec 32 := Scalar.andi v159 c1_i32_102
  let c64_i32_104 : BitVec 32 := 64#32
  let v164 : BitVec 32 := Scalar.muli v160 c64_i32_104
  let v165 : BitVec 32 := Scalar.addi v138 v164
  let c3_i32 : BitVec 32 := 3#32
  let v186 : BitVec 32 := Scalar.shrsi v28 c3_i32
  let c1_i32_119 : BitVec 32 := 1#32
  let v187 : BitVec 32 := Scalar.andi v186 c1_i32_119
  let c32_i32_121 : BitVec 32 := 32#32
  let v191 : BitVec 32 := Scalar.muli v187 c32_i32_121
  let v192 : BitVec 32 := Scalar.addi v165 v191
  let c3_i32_138 : BitVec 32 := 3#32
  let v217 : BitVec 32 := Scalar.shrsi v28 c3_i32_138
  let c1_i32_139 : BitVec 32 := 1#32
  let v218 : BitVec 32 := Scalar.andi v217 c1_i32_139
  let c32_i32_152 : BitVec 32 := 32#32
  let v233 : BitVec 32 := Scalar.muli v218 c32_i32_152
  let v234 : BitVec 32 := Scalar.subi v192 v233
  let c2_i32_153 : BitVec 32 := 2#32
  let v235 : BitVec 32 := Scalar.shrsi v28 c2_i32_153
  let c1_i32_154 : BitVec 32 := 1#32
  let v236 : BitVec 32 := Scalar.andi v235 c1_i32_154
  let c64_i32_167 : BitVec 32 := 64#32
  let v251 : BitVec 32 := Scalar.muli v236 c64_i32_167
  let v252 : BitVec 32 := Scalar.subi v234 v251
  let c1_i32_168 : BitVec 32 := 1#32
  let v253 : BitVec 32 := Scalar.shrsi v28 c1_i32_168
  let c1_i32_169 : BitVec 32 := 1#32
  let v254 : BitVec 32 := Scalar.andi v253 c1_i32_169
  let c128_i32_182 : BitVec 32 := 128#32
  let v269 : BitVec 32 := Scalar.muli v254 c128_i32_182
  let v270 : BitVec 32 := Scalar.subi v252 v269
  let c0_i32_187 : BitVec 32 := 0#32
  ![v270.toNat, 0]
def k0_dev12 (d0 : Dev nD) : Nat :=
  let c0_i32_186 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32 : BitVec 32 := 2#32
  let v25 : BitVec 32 := Scalar.muli c2_i32 v23
  let v26 : BitVec 32 := Scalar.addi v24 v25
  let c4_i32_9 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.muli c4_i32_9 v20
  let v28 : BitVec 32 := Scalar.addi v26 v27
  let c1_i32_10 : BitVec 32 := 1#32
  let v29 : BitVec 32 := Scalar.xori v28 c1_i32_10
  let c2_i32_14 : BitVec 32 := 2#32
  let v33 : BitVec 32 := Scalar.shrsi v29 c2_i32_14
  let v37 : BitVec 32 := Scalar.muli c4_i32_16 v33
  let c1_i32_11 : BitVec 32 := 1#32
  let v30 : BitVec 32 := Scalar.andi v29 c1_i32_11
  let c1_i32_12 : BitVec 32 := 1#32
  let v31 : BitVec 32 := Scalar.shrsi v29 c1_i32_12
  let c1_i32_13 : BitVec 32 := 1#32
  let v32 : BitVec 32 := Scalar.andi v31 c1_i32_13
  let v34 : BitVec 32 := Scalar.xori v30 v32
  let c2_i32_15 : BitVec 32 := 2#32
  let v35 : BitVec 32 := Scalar.muli c2_i32_15 v32
  let v36 : BitVec 32 := Scalar.addi v34 v35
  let v38 : BitVec 32 := Scalar.addi v37 v36
  let c1_i32_185 : BitVec 32 := 1#32
  let v271 : BitVec 32 := Scalar.muli v38 c1_i32_185
  let v272 : BitVec 32 := Scalar.addi c0_i32_186 v271
  v272.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x512 : Shape := ⟨2, ![512, 512]⟩
abbrev S512x16384 : Shape := ⟨2, ![512, 16384]⟩
abbrev S16384x512 : Shape := ⟨2, ![16384, 512]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x16384, .f32⟩
  | .hbm, ⟨2, _⟩ => ⟨S16384x512, .f32⟩
  | .hbm, ⟨3, _⟩ => ⟨S512x16384, .f32⟩
  | .hbm, ⟨4, _⟩ => ⟨S_, .f32⟩
  | .hbm, ⟨5, _⟩ => ⟨S512x16384, .f32⟩
  | .hbm, ⟨6, _⟩ => ⟨S512x16384, .f32⟩
  | .hbm, ⟨7, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Cube.lean ====
/-
# The sixteen devices as a cube of four bits, and the rows they halve

Each device has four bits; its partner at level `k` differs from it in bit `k` alone.  At level `k` a device keeps
one half of the rows it kept before and sends the other half to its level-`k` partner, which keeps exactly the
rows it is sent.  This module holds the arithmetic: partners, the first row of every kept and every sent block,
the closed forms of the printed device and offset chains, the sets of elements that the blocks are, and what it
means to read or write such a block through a rectangle.
-/
module

public import proofs.«01_k».proof.Proof.Gen.KernelIdeal

@[expose] public section

noncomputable section

namespace Cert.Cube

open Cert.KernelIdeal
open Idealize.ShloMosaic

/-! ## Devices, partners, first rows -/

/-- Bit 0 flipped when bit 1 is set: from a device number to its four bits, and back. -/
def gray (n : ℕ) : ℕ := n ^^^ ((n >>> 1) &&& 1)

theorem gray_lt (n : ℕ) : gray n % 16 < nD := Nat.mod_lt _ (by decide)

/-- Bit `k` of device `c`. -/
def bit (k : ℕ) (c : Dev nD) : ℕ := (gray c.val >>> k) % 2

/-- The device that differs from `c` in bit `k` alone. -/
def pr (k : ℕ) (c : Dev nD) : Dev nD := ⟨gray (gray c.val ^^^ (1 <<< k)) % 16, gray_lt _⟩

/-- Rows in a block sent at level `k`. -/
def len (k : ℕ) : ℕ := 512 >>> (k + 1)

/-- First row of the block device `c` holds before level `k`. -/
def kp : ℕ → Dev nD → ℕ
  | 0, _ => 0
  | k + 1, c => kp k c + len k * bit k c

/-- First row of the block device `c` sends at level `k`. -/
def sn (k : ℕ) (c : Dev nD) : ℕ := kp k c + len k * (1 - bit k c)

/-- The device whose sixteenth part row `r` is. -/
def owner (r : ℕ) : Dev nD :=
  ⟨gray (r / 256 % 2 + 2 * (r / 128 % 2) + 4 * (r / 64 % 2) + 8 * (r / 32 % 2)) % 16, gray_lt _⟩

theorem pr_pr {k : ℕ} (hk : k < 4) (c : Dev nD) : pr k (pr k c) = c := by
  have h : ∀ (k : Fin 4) (c : Dev nD), pr k (pr k c) = c := by decide
  exact h ⟨k, hk⟩ c
theorem sn_pr {k : ℕ} (hk : k < 4) (c : Dev nD) : sn k (pr k c) = kp (k + 1) c := by
  have h : ∀ (k : Fin 4) (c : Dev nD), sn k (pr k c) = kp (k + 1) c := by decide
  exact h ⟨k, hk⟩ c
theorem kp_pr {k : ℕ} (hk : k < 4) (c : Dev nD) : kp (k + 1) (pr k c) = sn k c := by
  have h : ∀ (k : Fin 4) (c : Dev nD), kp (k + 1) (pr k c) = sn k c := by decide
  exact h ⟨k, hk⟩ c
theorem owner_kp (c : Dev nD) (j : Fin 32) : owner (kp 4 c + j) = c := by revert c j; decide +kernel

/-- The printed device chains name the partners. -/
theorem dev1_eq (c : Dev nD) : (⟨k0_dev1 c, Facts₀.k0_dev1_lt c⟩ : Dev nD) = pr 0 c := by revert c; decide +kernel
theorem dev2_eq (c : Dev nD) : (⟨k0_dev2 c, Facts₀.k0_dev2_lt c⟩ : Dev nD) = pr 1 c := by revert c; decide +kernel
theorem dev3_eq (c : Dev nD) : (⟨k0_dev3 c, Facts₀.k0_dev3_lt c⟩ : Dev nD) = pr 2 c := by revert c; decide +kernel
theorem dev4_eq (c : Dev nD) : (⟨k0_dev4 c, Facts₀.k0_dev4_lt c⟩ : Dev nD) = pr 3 c := by revert c; decide +kernel
theorem dev5_eq (c : Dev nD) : (⟨k0_dev5 c, Facts₀.k0_dev5_lt c⟩ : Dev nD) = pr 0 c := by revert c; decide +kernel
theorem dev6_eq (c : Dev nD) : (⟨k0_dev6 c, Facts₀.k0_dev6_lt c⟩ : Dev nD) = pr 1 c := by revert c; decide +kernel
theorem dev7_eq (c : Dev nD) : (⟨k0_dev7 c, Facts₀.k0_dev7_lt c⟩ : Dev nD) = pr 2 c := by revert c; decide +kernel
theorem dev8_eq (c : Dev nD) : (⟨k0_dev8 c, Facts₀.k0_dev8_lt c⟩ : Dev nD) = pr 3 c := by revert c; decide +kernel
theorem dev9_eq (c : Dev nD) : (⟨k0_dev9 c, Facts₀.k0_dev9_lt c⟩ : Dev nD) = pr 3 c := by revert c; decide +kernel
theorem dev10_eq (c : Dev nD) : (⟨k0_dev10 c, Facts₀.k0_dev10_lt c⟩ : Dev nD) = pr 2 c := by revert c; decide +kernel
theorem dev11_eq (c : Dev nD) : (⟨k0_dev11 c, Facts₀.k0_dev11_lt c⟩ : Dev nD) = pr 1 c := by revert c; decide +kernel
theorem dev12_eq (c : Dev nD) : (⟨k0_dev12 c, Facts₀.k0_dev12_lt c⟩ : Dev nD) = pr 0 c := by revert c; decide +kernel

/-- The printed offset chains are the first rows. -/
theorem off1_eq (c : Dev nD) : k0_off1 c = ![sn 0 c, 0] := by revert c; decide +kernel
theorem off2_eq (c : Dev nD) : k0_off2 c = ![sn 0 c, 0] := by revert c; decide +kernel
theorem off3_eq (c : Dev nD) : k0_off3 c = ![kp 1 c, 0] := by revert c; decide +kernel
theorem off4_eq (c : Dev nD) : k0_off4 c = ![sn 1 c, 0] := by revert c; decide +kernel
theorem off5_eq (c : Dev nD) : k0_off5 c = ![kp 2 c, 0] := by revert c; decide +kernel
theorem off6_eq (c : Dev nD) : k0_off6 c = ![sn 2 c, 0] := by revert c; decide +kernel
theorem off7_eq (c : Dev nD) : k0_off7 c = ![kp 3 c, 0] := by revert c; decide +kernel
theorem off8_eq (c : Dev nD) : k0_off8 c = ![sn 3 c, 0] := by revert c; decide +kernel
theorem off9_eq (c : Dev nD) : k0_off9 c = ![kp 4 c, 0] := by revert c; decide +kernel
theorem off10_eq (c : Dev nD) : k0_off10 c = ![kp 4 c, 0] := by revert c; decide +kernel
theorem off11_eq (c : Dev nD) : k0_off11 c = ![kp 3 c, 0] := by revert c; decide +kernel
theorem off12_eq (c : Dev nD) : k0_off12 c = ![kp 2 c, 0] := by revert c; decide +kernel
theorem off13_eq (c : Dev nD) : k0_off13 c = ![kp 1 c, 0] := by revert c; decide +kernel

/-! ## Blocks of rows -/

/-- The elements in the `n` rows from row `a`. -/
def rows (a n : ℕ) : Finset S512x512.Idx := Finset.univ.filter fun i => a ≤ (i 0).val ∧ (i 0).val < a + n

theorem mem_rows {a n : ℕ} {i : S512x512.Idx} : i ∈ rows a n ↔ a ≤ (i 0).val ∧ (i 0).val < a + n := by simp [rows]

/-- The block device `c` holds before level `k`, -/
def Kp (k : ℕ) (c : Dev nD) : Finset S512x512.Idx := rows (kp k c) (512 >>> k)
/-- and the block it sends at level `k`. -/
def Bk (k : ℕ) (c : Dev nD) : Finset S512x512.Idx := rows (sn k c) (len k)

theorem Kp_zero (c : Dev nD) : Kp 0 c = Finset.univ := by
  ext i; have := (i 0).isLt; simp only [Kp, mem_rows, kp, Finset.mem_univ, iff_true]
  exact ⟨Nat.zero_le _, by simpa using this⟩

theorem Bk_pr {k : ℕ} (hk : k < 4) (c : Dev nD) : Bk k (pr k c) = Kp (k + 1) c := by
  unfold Bk Kp; rw [sn_pr hk]; rfl
theorem Kp_pr {k : ℕ} (hk : k < 4) (c : Dev nD) : Kp (k + 1) (pr k c) = Bk k c := by
  unfold Bk Kp; rw [kp_pr hk]; rfl

theorem halves {k : ℕ} (hk : k < 4) : 512 >>> k = 2 * len k := by
  have h : ∀ k : Fin 4, 512 >>> k.val = 2 * len k.val := by decide
  exact h ⟨k, hk⟩
theorem bit_lt (k : ℕ) (c : Dev nD) : bit k c < 2 := Nat.mod_lt _ (by decide)

/-- A block halves into the part kept and the part sent. -/
theorem Kp_split {k : ℕ} (hk : k < 4) (c : Dev nD) : Kp k c = Kp (k + 1) c ∪ Bk k c := by
  ext i
  have hb := bit_lt k c
  have hl := halves hk
  simp only [Kp, Bk, Finset.mem_union, mem_rows, kp, sn, show 512 >>> (k + 1) = len k from rfl, hl]
  rcases (by omega : bit k c = 0 ∨ bit k c = 1) with h | h <;> simp only [h] <;> omega
theorem Kp_disj {k : ℕ} (hk : k < 4) (c : Dev nD) : Disjoint (Kp (k + 1) c) (Bk k c) := by
  rw [Finset.disjoint_left]
  intro i
  have hb := bit_lt k c
  simp only [Kp, Bk, mem_rows, kp, sn, show 512 >>> (k + 1) = len k from rfl]
  rcases (by omega : bit k c = 0 ∨ bit k c = 1) with h | h <;> simp only [h] <;> omega

theorem owner_of_mem {c : Dev nD} {i : S512x512.Idx} (h : i ∈ Kp 4 c) : owner (i 0).val = c := by
  obtain ⟨h1, h2⟩ := mem_rows.mp h
  have h2' : (i 0).val < kp 4 c + 32 := h2
  have := owner_kp c ⟨(i 0).val - kp 4 c, by omega⟩
  rw [← this]; congr 1; simp only; omega

/-! ## Reading and writing a block of rows -/

/-- The element of row `r` and column `j`. -/
def ix (r j : ℕ) : S512x512.Idx := fun a => ⟨(![r, j] : Fin 2 → ℕ) a % 512, match a with
  | ⟨0, _⟩ => Nat.mod_lt _ (by decide)
  | ⟨1, _⟩ => Nat.mod_lt _ (by decide)⟩

/-- The `n` rows of `f` from row `a`, as an array of `n` rows. -/
def rd {α : Type} (a n : ℕ) (f : S512x512.Idx → α) : (⟨2, ![n, 512]⟩ : Shape).Idx → α :=
  fun y => f (ix (a + (y 0).val) (y 1).val)

variable {a n : ℕ} {off : Fin 2 → ℕ} {inb : ∀ i, off i + (![n, 512] : Fin 2 → ℕ) i ≤ S512x512.size i}

theorem rect_set (h : off = ![a, 0]) : (Rect.unit (s := S512x512) off ![n, 512] inb).set = rows a n := by
  subst h
  ext i
  have := (i 1).isLt
  rw [Rect.mem_set_unit, mem_rows]
  constructor
  · intro h; exact h 0
  · intro h j
    match j with
    | ⟨0, _⟩ => exact h
    | ⟨1, _⟩ => exact ⟨Nat.zero_le _, by simpa using this⟩

theorem rect_emb (h : off = ![a, 0]) (y : (⟨2, ![n, 512]⟩ : Shape).Idx) :
    (Rect.unit (s := S512x512) off ![n, 512] inb).emb y = ix (a + (y 0).val) (y 1).val := by
  subst h
  have h0 := inb 0
  have hy0 : (y 0).val < n := (y 0).isLt
  have hy1 : (y 1).val < 512 := (y 1).isLt
  have h0' : a + n ≤ 512 := h0
  funext j
  apply Fin.ext
  rw [Rect.emb_apply]
  match j with
  | ⟨0, _⟩ =>
    show a + 1 * (y 0).val = (a + (y 0).val) % 512
    rw [Nat.mod_eq_of_lt (by omega), Nat.one_mul]
  | ⟨1, _⟩ =>
    show 0 + 1 * (y 1).val = (y 1).val % 512
    rw [Nat.mod_eq_of_lt hy1]; omega

/-- Reading a view's block of rows reads those rows. -/
theorem read_rows {κ : Kind} {sp : Space} {e : EltTy} {Val : EltTy → Type} (v : View sig κ sp S512x512 e) (f : v.ty.Contents Val) (h : off = ![a, 0]) :
    (v.slice (Rect.unit (s := S512x512) off ![n, 512] inb)).read Val f = rd a n (v.read Val f) := by
  funext y
  rw [View.read_apply]
  unfold rd
  rw [View.read_apply, ← rect_emb (inb := inb) h y]
  rfl

/-- Writing a block of rows of `g` through a view's rectangle leaves `g` on that block. -/
theorem write_rows {κ : Kind} {sp : Space} {e : EltTy} {Val : EltTy → Type} (v : View sig κ sp S512x512 e) (f g : v.ty.Contents Val)
    (h : off = ![a, 0]) {i : v.ty.Idx} (hi : i ∈ (v.slice (Rect.unit (s := S512x512) off ![n, 512] inb)).set) :
    (v.slice (Rect.unit (s := S512x512) off ![n, 512] inb)).write Val f (rd a n (v.read Val g)) Finset.univ i = g i := by
  rw [← read_rows (inb := inb) v g h, View.write_read_eq_piecewise]
  exact Finset.piecewise_eq_of_mem _ _ _ hi

end Cert.Cube
-- ==== Proof.Protocol.lean ====
/-
# The protocol of the exchanges

Seventeen semaphores per device take part: the barrier, and for each of the four levels a send and a receive
semaphore of the reducing exchange (kinds 0 and 1) and of the gathering exchange (kinds 2 and 3).  All are used for
one round.  A device's barrier has one duty per level, paid by the partner of that level, who hands over the two
places this device will write into on it: its landing buffer of the level, and the rows of its result that this
device gathers for it.  A receive semaphore hands its owner the rows that arrived, a send semaphore gives the rows
sent back.  The contents are those of a family `A` (the accumulators after `k` exchanges) and `R` (the result).
-/
module

public import proofs.«01_k».proof.Proof.Cube
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Protocol

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The staging pipeline's rounds, and these exchanges' (duties named by levels). -/
abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The barrier semaphore. -/
abbrev barS : Sem sig := (SemArray.scalar (sig.barrier 0 rfl) : Sems sig S_).sem
/-- The semaphore of kind `q` and level `k`. -/
def ds (q k : ℕ) : DmaSem sig := ⟨(4 + 4 * q + k) % 20, Nat.mod_lt _ (by decide)⟩

abbrev barCell (c : Dev nD) : GSem nD τ sig := ((c : Thread nD τ), .reg barS)
abbrev dCell (c : Dev nD) (q k : ℕ) : GSem nD τ sig := ((c : Thread nD τ), .dma (ds q k))

/-- Kind and level of a semaphore number from 4 on. -/
def kindOf (s : DmaSem sig) : ℕ := (s.val - 4) / 4
def levelOf (s : DmaSem sig) : ℕ := (s.val - 4) % 4

theorem ds_val {q k : ℕ} (hq : q < 4) (hk : k < 4) : (ds q k).val = 4 + 4 * q + k := Nat.mod_eq_of_lt (by omega)
theorem kindOf_ds {q k : ℕ} (hq : q < 4) (hk : k < 4) : kindOf (ds q k) = q := by unfold kindOf; rw [ds_val hq hk]; omega
theorem levelOf_ds {q k : ℕ} (hq : q < 4) (hk : k < 4) : levelOf (ds q k) = k := by unfold levelOf; rw [ds_val hq hk]; omega

/-- All seventeen of a device: the barrier first, then kind by kind. -/
abbrev csem : Fin 17 → SemLoc sig := fun j => if j.val = 0 then .reg barS else .dma (ds ((j.val - 1) / 4) ((j.val - 1) % 4))
abbrev kcell (cj : Dev nD × Fin 17) : GSem nD τ sig := ((cj.1 : Thread nD τ), csem cj.2)
/-- The place of kind `q` and level `k` among them. -/
def jj (q k : ℕ) : Fin 17 := ⟨(1 + 4 * q + k) % 17, Nat.mod_lt _ (by decide)⟩

theorem csem_jj {q k : ℕ} (hq : q < 4) (hk : k < 4) : csem (jj q k) = .dma (ds q k) := by
  have h : (jj q k).val = 1 + 4 * q + k := Nat.mod_eq_of_lt (by omega)
  unfold csem
  rw [if_neg (by omega), h, show (1 + 4 * q + k - 1) / 4 = q by omega, show (1 + 4 * q + k - 1) % 4 = k by omega]

/-! ## Places and what they hold -/

/-- The elements `S` of device `c`'s accumulator, holding `f`; -/
def accP (c : Dev nD) (S : Finset S512x512.Idx) (f : Vec F S512x512 .f32) : sProp 𝕄 :=
  ((c : Thread nD τ).loc cc0_scratch0) ↦[S]{fullShare} f
/-- of its result, at share `q`. -/
def outP (c : Dev nD) (S : Finset S512x512.Idx) (q : PosShare TreeShare) (f : Vec F S512x512 .f32) : sProp 𝕄 :=
  ((c : Thread nD τ).loc cc0_stg3_0) ↦[S]{q} f

/-- A buffer of device `c` whole, holding `f`. -/
def bufP (c : Dev nD) (b : Ref sig .tc) (f : b.ty.Contents (Elt F)) : sProp 𝕄 := ((c : Thread nD τ).loc b) ↦{fullShare} f

/-- The landing buffer of level `k`, holding anything; -/
def landAny (c : Dev nD) : ℕ → sProp 𝕄
  | 0 => iprop(∃ f, bufP c cc0_scratch1 f)
  | 1 => iprop(∃ f, bufP c cc0_scratch2 f)
  | 2 => iprop(∃ f, bufP c cc0_scratch3 f)
  | _ => iprop(∃ f, bufP c cc0_scratch4 f)
/-- holding the partner's rows that arrived. -/
def landed (A : ℕ → Dev nD → Vec F S512x512 .f32) (c : Dev nD) : ℕ → sProp 𝕄
  | 0 => bufP c cc0_scratch1 (rd (kp 1 c) 256 (A 0 (pr 0 c)))
  | 1 => bufP c cc0_scratch2 (rd (kp 2 c) 128 (A 1 (pr 1 c)))
  | 2 => bufP c cc0_scratch3 (rd (kp 3 c) 64 (A 2 (pr 2 c)))
  | _ => bufP c cc0_scratch4 (rd (kp 4 c) 32 (A 3 (pr 3 c)))

/-- What the exchange of level `k` credits. -/
def amt : ℕ → ℕ
  | 0 => (View.whole cc0_scratch1 : View sig .tc _ _ _).dmaCredit
  | 1 => (View.whole cc0_scratch2 : View sig .tc _ _ _).dmaCredit
  | 2 => (View.whole cc0_scratch3 : View sig .tc _ _ _).dmaCredit
  | _ => (View.whole cc0_scratch4 : View sig .tc _ _ _).dmaCredit

theorem amt_pos (k : ℕ) : 0 < amt k := by
  unfold amt; split <;> exact View.dmaCredit_pos _ (by decide)

/-- The share at which the gathered rows are sent at level `k`: four shares that make up a whole. -/
def sh : ℕ → PosShare TreeShare
  | 3 => fullShare.left
  | 2 => fullShare.right.left
  | 1 => fullShare.right.right.left
  | _ => fullShare.right.right.right

/-- The two places of device `c` that its partner of level `k` will write into. -/
def ready (c : Dev nD) (k : ℕ) : sProp 𝕄 := iprop(landAny c k ∗ ∃ f, outP c (Bk k c) fullShare f)

section Schedule

variable (A : ℕ → Dev nD → Vec F S512x512 .f32) (R : Vec F S512x512 .f32)

/-- What the semaphore of kind `q` and level `k` hands device `c`. -/
def dPay (c : Dev nD) : ℕ → ℕ → sProp 𝕄
  | 0, k => accP c (Bk k c) (A k c)
  | 1, k => landed A c k
  | 2, k => outP c (Kp (k + 1) c) (sh k) R
  | _, k => outP c (Bk k c) fullShare R

instance accP_storable (c : Dev nD) (S f) : BI.Storable (upEmb : UEmb _ 𝕄) (accP (F := F) c S f) := by unfold accP; infer_instance
instance outP_storable (c : Dev nD) (S q f) : BI.Storable (upEmb : UEmb _ 𝕄) (outP (F := F) c S q f) := by unfold outP; infer_instance
instance bufP_storable (c : Dev nD) (b f) : BI.Storable (upEmb : UEmb _ 𝕄) (bufP (F := F) c b f) := by unfold bufP; infer_instance
instance landAny_storable (c : Dev nD) (k) : BI.Storable (upEmb : UEmb _ 𝕄) (landAny (F := F) c k) := by unfold landAny; split <;> infer_instance
instance landed_storable (c : Dev nD) (k) : BI.Storable (upEmb : UEmb _ 𝕄) (landed A c k) := by unfold landed; split <;> infer_instance
instance ready_storable (c : Dev nD) (k) : BI.Storable (upEmb : UEmb _ 𝕄) (ready (F := F) c k) := by unfold ready; infer_instance
instance dPay_storable (c : Dev nD) (q k) : BI.Storable (upEmb : UEmb _ 𝕄) (dPay A R c q k) := by unfold dPay; split <;> infer_instance

/-- A barrier has a duty of one unit per level, every other semaphore of the protocol the duty `0` of its level's credit. -/
def sched : Rounds.Schedule (GSem nD τ sig) ℕ 𝕄 where
  duties g r := if r = 0 ∧ g.1.2 = .tc then (match g.2 with | .reg _ => Finset.range 4 | .dma _ => {0}) else ∅
  unitless _ := False
  amount g _ _ := match g.2 with | .reg _ => 1 | .dma s => amt (levelOf s)
  payload g _ d := match g.2 with | .reg _ => ready (pr d g.1.1) d | .dma s => dPay A R g.1.1 (kindOf s) (levelOf s)
  amount_pos g _ _ _ := by
    rcases g.2 with s | s
    · exact Nat.one_pos
    · exact amt_pos _

instance sched_payload_storable (g : GSem nD τ sig) (r d : ℕ) : BI.Storable (upEmb : UEmb _ 𝕄) ((sched A R).payload g r d) := by
  show BI.Storable upEmb (match g.2 with | .reg _ => ready (pr d g.1.1) d | .dma s => dPay A R g.1.1 (kindOf s) (levelOf s))
  split <;> infer_instance

variable (c : Dev nD)

theorem duties_bar : (sched A R).duties (barCell c) 0 = Finset.range 4 := by
  dsimp only [sched]; exact if_pos ⟨rfl, rfl⟩
theorem duties_dma (q k : ℕ) : (sched A R).duties (dCell c q k) 0 = {0} := by
  dsimp only [sched]; exact if_pos ⟨rfl, rfl⟩
theorem duties_later (g : GSem nD τ sig) : ∀ r, 1 ≤ r → (sched A R).duties g r = ∅ := fun r hr => if_neg fun h => by omega
theorem amount_bar (d : ℕ) : (sched A R).amount (barCell c) 0 d = 1 := rfl
theorem amount_dma {q k : ℕ} (hq : q < 4) (hk : k < 4) (d : ℕ) : (sched A R).amount (dCell c q k) 0 d = amt k := by
  show amt (levelOf (ds q k)) = _; rw [levelOf_ds hq hk]
theorem payload_bar (d : ℕ) : (sched A R).payload (barCell c) 0 d = ready (pr d c) d := rfl
theorem payload_dma {q k : ℕ} (hq : q < 4) (hk : k < 4) (d : ℕ) : (sched A R).payload (dCell c q k) 0 d = dPay A R c q k := by
  show dPay A R c (kindOf (ds q k)) (levelOf (ds q k)) = _; rw [kindOf_ds hq hk, levelOf_ds hq hk]

theorem expect_bar : (sched A R).expect (barCell c) 0 = 4 := by
  unfold Schedule.expect Schedule.amountOf
  rw [duties_bar, Finset.sum_congr rfl fun d _ => amount_bar A R c d]; rfl
theorem expect_dma {q k : ℕ} (hq : q < 4) (hk : k < 4) : (sched A R).expect (dCell c q k) 0 = amt k := by
  unfold Schedule.expect Schedule.amountOf; rw [duties_dma, Finset.sum_singleton, amount_dma A R c hq hk]

theorem rest_bar : bigSep ((sched A R).duties (barCell c) 0 \ ∅) (fun d => (sched A R).payload (barCell c) 0 d)
    = iprop(ready (pr 0 c) 0 ∗ ready (pr 1 c) 1 ∗ ready (pr 2 c) 2 ∗ ready (pr 3 c) 3) := by
  rw [Finset.sdiff_empty, duties_bar, bigSep_eq_bigSepL_of_eq [0, 1, 2, 3] (by decide) (by decide)]; rfl
theorem rest_dma {q k : ℕ} (hq : q < 4) (hk : k < 4) :
    bigSep ((sched A R).duties (dCell c q k) 0 \ ∅) (fun d => (sched A R).payload (dCell c q k) 0 d) = dPay A R c q k := by
  rw [Finset.sdiff_empty, duties_dma, bigSep_singleton, payload_dma A R c hq hk]

end Schedule

/-! ## What a device owes, and the levels -/

/-- The receive semaphores a device pays, in the order it pays them: reducing by level 0 to 3, gathering by level 3 to 0. -/
def debtCell (i : ℕ) (c : Dev nD) : GSem nD τ sig := if i < 4 then dCell (pr i c) 1 i else dCell (pr (7 - i) c) 3 (7 - i)
def debtAmt (i : ℕ) : ℕ := if i < 4 then amt i else amt (7 - i)

/-- What is owed when the last `n` of them are still to be paid; -/
def oweDma (c : Dev nD) : ℕ → CellTallies nD τ sig Unit
  | 0 => 0
  | n + 1 => oweDma c n + tallyAt (debtCell (7 - n) c) () (debtAmt (7 - n))
/-- and when besides all eight the last `n` signals are. -/
def oweBar (c : Dev nD) : ℕ → CellTallies nD τ sig Unit
  | 0 => oweDma c 8
  | n + 1 => oweBar c n + tallyAt (barCell (pr (3 - n) c)) () 1

def O₀ (c : Dev nD) : CellTallies nD τ sig Unit := oweBar c 4

theorem oweBar_peel {k : ℕ} (hk : k < 4) (c : Dev nD) : oweBar c (4 - k) = oweBar c (3 - k) + tallyAt (barCell (pr k c)) () 1 := by
  rw [show 4 - k = (3 - k) + 1 by omega]
  show oweBar c (3 - k) + tallyAt (barCell (pr (3 - (3 - k)) c)) () 1 = _
  rw [show 3 - (3 - k) = k by omega]
theorem oweDma_reduce {k : ℕ} (hk : k < 4) (c : Dev nD) : oweDma c (8 - k) = oweDma c (7 - k) + tallyAt (dCell (pr k c) 1 k) () (amt k) := by
  rw [show 8 - k = (7 - k) + 1 by omega]
  show oweDma c (7 - k) + tallyAt (debtCell (7 - (7 - k)) c) () (debtAmt (7 - (7 - k))) = _
  rw [show 7 - (7 - k) = k by omega]; unfold debtCell debtAmt; rw [if_pos hk, if_pos hk]
theorem oweDma_gather {k : ℕ} (hk : k < 4) (c : Dev nD) : oweDma c (k + 1) = oweDma c k + tallyAt (dCell (pr k c) 3 k) () (amt k) := by
  show oweDma c k + tallyAt (debtCell (7 - k) c) () (debtAmt (7 - k)) = _
  unfold debtCell debtAmt; rw [if_neg (by omega), if_neg (by omega), show 7 - (7 - k) = k by omega]

def L (g : GSem nD τ sig) : Finset Unit := if g.1.2 = .tc then {()} else ∅
/-- The order in which waits may depend: barrier, reducing levels 0 to 3, gathering levels 3 to 0; the rest below. -/
def lv (g : GSem nD τ sig) (_ : Unit) : ℕ := match g.2 with
  | .reg _ => 1
  | .dma s => if s.val < 4 then 0 else if kindOf s = 1 then 2 + levelOf s else if kindOf s = 3 then 9 - levelOf s else 0

theorem L_of_ne (g : GSem nD τ sig) (h : g.1.2 ≠ .tc) : L g = ∅ := if_neg h
theorem L_tc (c : Dev nD) (sm : SemLoc sig) : L ((c : Thread nD τ), sm) = {()} := if_pos rfl

theorem lv_dma (c : Dev nD) {q k : ℕ} (hq : q < 4) (hk : k < 4) : lv (dCell c q k) () = if q = 1 then 2 + k else if q = 3 then 9 - k else 0 := by
  show (if (ds q k).val < 4 then 0 else if kindOf (ds q k) = 1 then 2 + levelOf (ds q k) else if kindOf (ds q k) = 3 then 9 - levelOf (ds q k) else 0) = _
  rw [ds_val hq hk, kindOf_ds hq hk, levelOf_ds hq hk, if_neg (by omega)]

theorem debt_tc (i : ℕ) (c : Dev nD) : () ∈ L (debtCell i c) := by
  unfold debtCell; split <;> rw [L_tc] <;> exact Finset.mem_singleton_self _
theorem debt_lv {i : ℕ} (hi : i < 8) (c : Dev nD) : lv (debtCell i c) () = 2 + i := by
  unfold debtCell
  split
  · next h => rw [lv_dma _ (by omega) h]; rfl
  · next h => rw [lv_dma _ (by omega) (by omega)]; simp only [show ¬((3 : ℕ) = 1) by omega, if_false, if_true]; omega

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem oweDma_pos {c : Dev nD} {g : GSem nD τ sig} {u : Unit} : ∀ {n : ℕ}, n ≤ 8 → 0 < oweDma c n g u → ∃ i, 8 - n ≤ i ∧ i < 8 ∧ g = debtCell i c
  | 0, _, h => absurd h (Nat.lt_irrefl 0)
  | n + 1, hn, h => by
    unfold oweDma at h
    rw [Pi.add_apply, Finsupp.add_apply] at h
    rcases (Nat.add_pos_iff_pos_or_pos.mp h) with h | h
    · obtain ⟨i, h1, h2, h3⟩ := oweDma_pos (by omega) h; exact ⟨i, by omega, h2, h3⟩
    · exact ⟨7 - n, by omega, by omega, tally_pos h⟩

theorem oweBar_pos {c : Dev nD} {g : GSem nD τ sig} {u : Unit} : ∀ {n : ℕ}, 0 < oweBar c n g u → (∃ i, i < 8 ∧ g = debtCell i c) ∨ ∃ k, g = barCell (pr k c)
  | 0, h => by obtain ⟨i, -, h2, h3⟩ := oweDma_pos (le_refl 8) h; exact .inl ⟨i, h2, h3⟩
  | n + 1, h => by
    unfold oweBar at h
    rw [Pi.add_apply, Finsupp.add_apply] at h
    rcases (Nat.add_pos_iff_pos_or_pos.mp h) with h | h
    · exact oweBar_pos h
    · exact .inr ⟨_, tally_pos h⟩

/-- A device may wait at a semaphore below all it still owes. -/
theorem mayWait_dma (c : Dev nD) (sm : SemLoc sig) {n : ℕ} (hn : n ≤ 8) (h : lv ((c : Thread nD τ), sm) () < 10 - n) :
    (levAts L lv : sProp 𝕄) ⊢ MayWait (c : Thread nD τ) sm () (oweDma c n) :=
  MayOwe.of_cut (L := L) (lev := lv) (lv ((c : Thread nD τ), sm) ())
    (fun p hp => by rw [Finset.mem_singleton.mp hp, L_tc]; exact Finset.mem_singleton_self _)
    (fun g u hg => by obtain ⟨i, -, -, rfl⟩ := oweDma_pos hn hg; exact debt_tc i c)
    (fun p hp => by rw [Finset.mem_singleton.mp hp])
    (fun g u hg => by obtain ⟨i, h1, h2, rfl⟩ := oweDma_pos hn hg; rw [debt_lv h2]; omega)

/-- The staging pipeline's waits are below everything owed. -/
theorem mayWait_stage (c : Dev nD) (s : DmaSem sig) (hs : s.val < 4) (O : CellTallies nD τ sig Unit) (hO : O = O₀ c ∨ O = 0) :
    (levAts L lv : sProp 𝕄) ⊢ MayWait (c : Thread nD τ) (.dma s) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact le_of_eq (if_pos hs)) (fun g u hg => ?_)
    · rcases oweBar_pos hg with ⟨i, -, rfl⟩ | ⟨k, rfl⟩
      · exact debt_tc i c
      · rw [L_tc]; exact Finset.mem_singleton_self _
    · rcases oweBar_pos hg with ⟨i, h, rfl⟩ | ⟨k, rfl⟩
      · rw [debt_lv h]; omega
      · exact Nat.one_pos
  · rw [MayWait_zero]; iintro -; iempintro

/-! ## The records every device keeps -/

section Records

variable (A : ℕ → Dev nD → Vec F S512x512 .f32) (R : Vec F S512x512 .f32)

/-- Every semaphore's invariant, under the names `K`, and that each is at its round. -/
def records (K : Dev nD × Fin 17 → ℕ) : sProp 𝕄 :=
  iprop((bigSep Finset.univ fun cj : Dev nD × Fin 17 => cellInv ER (sched A R) (K cj) (kcell cj))
    ∗ bigSep Finset.univ fun cj : Dev nD × Fin 17 => reached ER (kcell cj) 0)

instance records_persistent (K : Dev nD × Fin 17 → ℕ) : BI.Persistent (records A R K) := by unfold records; infer_instance

theorem record_bar (K : Dev nD × Fin 17 → ℕ) (c : Dev nD) :
    records A R K ⊢ iprop(cellInv ER (sched A R) (K (c, 0)) (barCell c) ∗ reached ER (barCell c) 0) := by
  unfold records
  exact BI.sep_mono (bigSep_elim (Finset.mem_univ (c, (0 : Fin 17)))) (bigSep_elim (Finset.mem_univ (c, (0 : Fin 17))))
theorem record_dma (K : Dev nD × Fin 17 → ℕ) (c : Dev nD) {q k : ℕ} (hq : q < 4) (hk : k < 4) :
    records A R K ⊢ iprop(cellInv ER (sched A R) (K (c, jj q k)) (dCell c q k) ∗ reached ER (dCell c q k) 0) := by
  unfold records dCell
  rw [← csem_jj hq hk]
  exact BI.sep_mono (bigSep_elim (Finset.mem_univ (c, jj q k))) (bigSep_elim (Finset.mem_univ (c, jj q k)))

end Records

end Cert.Protocol
-- ==== Proof.Contents.lean ====
/-
# What the accumulators and the result hold

`part` is one device's share of the work, from its three input blocks; `acc k` is what the accumulator holds on the
rows the device still keeps after `k` exchanges: its own previous sum and its partner's.  `total` is the result, the
same on every device: each row as the device that keeps it to the end has it.
-/
module

public import proofs.«01_k».proof.Proof.Cube
public import proofs.«01_k».proof.Proof.Gen.KernelIdeal.Skeleton

@[expose] public section

noncomputable section

namespace Cert.Contents

open Cert.KernelIdeal Cert.KernelIdeal.Gen Cert.Cube
open Idealize.ShloMosaic

variable {F : FTy → Type} [FloatOps F]

/-- Element `(r, j)` of half a block of rows. -/
def iy (r j : ℕ) : S256x512.Idx := fun a => ⟨(![r % 256, j % 512] : Fin 2 → ℕ) a, match a with
  | ⟨0, _⟩ => Nat.mod_lt _ (by decide)
  | ⟨1, _⟩ => Nat.mod_lt _ (by decide)⟩

/-- One device's product, computed a half of its rows at a time. -/
def part (x : Vec F S512x512 .f32) (u : Vec F S512x1024 .f32) (v : Vec F S1024x512 .f32) : Vec F S512x512 .f32 :=
  fun i => k0_pay1 (rd (256 * ((i 0).val / 256)) 256 x) u v (iy (i 0).val (i 1).val)

theorem rd_part (x : Vec F S512x512 .f32) (u : Vec F S512x1024 .f32) (v : Vec F S1024x512 .f32) {a : ℕ} (h : a = 0 ∨ a = 256) :
    rd a 256 (part x u v) = k0_pay1 (rd a 256 x) u v := by
  funext y
  have hy0 : (y 0).val < 256 := (y 0).isLt
  have hy1 : (y 1).val < 512 := (y 1).isLt
  have e0 : (ix (a + (y 0).val) (y 1).val 0).val = a + (y 0).val := Nat.mod_eq_of_lt (show a + (y 0).val < 512 by omega)
  have e1 : (ix (a + (y 0).val) (y 1).val 1).val = (y 1).val := Nat.mod_eq_of_lt hy1
  unfold rd part
  rw [e0, e1, show 256 * ((a + (y 0).val) / 256) = a by rcases h with rfl | rfl <;> omega]
  unfold rd
  congr 1
  funext j
  apply Fin.ext
  match j with
  | ⟨0, _⟩ => show (a + (y 0).val) % 256 = (y 0).val; rcases h with rfl | rfl <;> omega
  | ⟨1, _⟩ => exact Nat.mod_eq_of_lt hy1

/-- The two printed products are one function. -/
theorem pay2_eq : k0_pay2 (F := F) = k0_pay1 := rfl

variable (X : Dev nD → Vec F S512x512 .f32) (U : Dev nD → Vec F S512x1024 .f32) (V : Dev nD → Vec F S1024x512 .f32)

/-- The accumulator of device `c` after `k` exchanges. -/
def acc : ℕ → Dev nD → Vec F S512x512 .f32
  | 0, c => part (X c) (U c) (V c)
  | k + 1, c => addf (acc k c) (acc k (pr k c))

theorem rd_acc_succ (k a n : ℕ) (c : Dev nD) :
    rd a n (acc X U V (k + 1) c) = addf (s := ⟨2, ![n, 512]⟩) (rd a n (acc X U V k c)) (rd a n (acc X U V k (pr k c))) := rfl

/-- The result: every row from its owner. -/
def total : Vec F S512x512 .f32 := fun i => acc X U V 4 (owner (i 0).val) i

theorem total_eq (c : Dev nD) {i : S512x512.Idx} (h : i ∈ Kp 4 c) : acc X U V 4 c i = total X U V i := by
  unfold total; rw [owner_of_mem h]

/-- On its last block a device's accumulator is the result. -/
theorem rd_total (c : Dev nD) : rd (kp 4 c) 32 (acc X U V 4 c) = rd (kp 4 c) 32 (total X U V) := by
  have h0 : ∀ c : Dev nD, kp 4 c + 32 ≤ 512 := by decide +kernel
  funext y
  refine total_eq X U V c (mem_rows.mpr ?_)
  have hy0 : (y 0).val < 32 := (y 0).isLt
  have e0 : (ix (kp 4 c + (y 0).val) (y 1).val 0).val = kp 4 c + (y 0).val := Nat.mod_eq_of_lt (show kp 4 c + (y 0).val < 512 by have := h0 c; omega)
  rw [e0, show 512 >>> 4 = 32 from rfl]; omega

end Cert.Contents
-- ==== Proof.Steps.lean ====
/-
# The kernel's steps, one rule each

Every operation of the kernel that takes part in the protocol, at any level: a signal to a partner, the wait for all
four partners, a transfer to a partner, a wait at a transfer's semaphore.  And the three stretches between them: the
product of a half of the rows, the sum of the rows kept and the rows that arrived, the copy of the last rows into the
result.
-/
module

public import proofs.«01_k».proof.Proof.Protocol
public import proofs.«01_k».proof.Proof.Contents

@[expose] public section

noncomputable section

namespace Cert.Steps

open Cert.KernelIdeal Cert.KernelIdeal.Gen Cert.Cube Cert.Protocol
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What remains of a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def owing (c : Dev nD) (O : CellTallies nD τ sig Unit) : sProp 𝕄 := iprop(∃ W, owes (c : Thread nD τ) O W)

/-! ## Splitting and joining rows -/

theorem acc_split {k : ℕ} (hk : k < 4) (c : Dev nD) (f : Vec F S512x512 .f32) :
    accP c (Kp k c) f ⊣⊢ iprop(accP c (Kp (k + 1) c) f ∗ accP c (Bk k c) f) := by
  unfold accP; rw [Kp_split hk]; exact pointsTo_union (Kp_disj hk c)
theorem out_split {k : ℕ} (hk : k < 4) (c : Dev nD) (q : PosShare TreeShare) (f : Vec F S512x512 .f32) :
    outP c (Kp k c) q f ⊣⊢ iprop(outP c (Kp (k + 1) c) q f ∗ outP c (Bk k c) q f) := by
  unfold outP; rw [Kp_split hk]; exact pointsTo_union (Kp_disj hk c)

/-- Rows kept and rows sent, holding anything each, are the block holding something. -/
theorem acc_join {k : ℕ} (hk : k < 4) (c : Dev nD) (f : Vec F S512x512 .f32) :
    iprop((∃ g, accP c (Kp (k + 1) c) g) ∗ accP c (Bk k c) f) ⊢ (∃ g, accP c (Kp k c) g : sProp 𝕄) := by
  iintro ⟨⟨%g, H1⟩, H2⟩
  iexists (Bk k c).piecewise f g
  unfold accP
  rw [Kp_split hk]
  iapply (pointsTo_join (Kp_disj hk c))
  isplitl [H1] <;> iassumption

/-- A whole is the four shares of the gathering levels. -/
theorem out_shares (c : Dev nD) (S : Finset S512x512.Idx) (f : Vec F S512x512 .f32) :
    outP c S fullShare f ⊣⊢ iprop(outP c S (sh 3) f ∗ outP c S (sh 2) f ∗ outP c S (sh 1) f ∗ outP c S (sh 0) f) := by
  have h (q : PosShare TreeShare) : outP c S q f ⊣⊢ iprop(outP c S q.left f ∗ outP c S q.right f) := by
    unfold outP; exact pointsTo_share (PosShare.mem_left_op_right q)
  constructor
  · iintro H
    ihave H := (h _).1 $$ H
    icases H with ⟨H3, H⟩
    ihave H := (h _).1 $$ H
    icases H with ⟨H2, H⟩
    ihave H := (h _).1 $$ H
    icases H with ⟨H1, H0⟩
    isplitl [H3]; · iexact H3
    isplitl [H2]; · iexact H2
    isplitl [H1]; · iexact H1
    iexact H0
  · iintro ⟨H3, H2, H1, H0⟩
    iapply (h _).2
    isplitl [H3]; · iexact H3
    iapply (h _).2
    isplitl [H2]; · iexact H2
    iapply (h _).2
    isplitl [H1]; · iexact H1
    iexact H0

/-! ## Signals and waits -/

section Rules

variable (A : ℕ → Dev nD → Vec F S512x512 .f32) (R : Vec F S512x512 .f32) (K : Dev nD × Fin 17 → ℕ) (c : Dev nD)
variable {α : Type} {kt : PUnit → Prog (TpuEff nD τ sig (Elt F) Λ₀ .tc) α}

/-- The signal to the partner of level `k` hands over the two places it will write into. -/
theorem step_signal {Q : α → sProp 𝕄} {k : ℕ} (hk : k < 4) {n : Dev nD} (hn : n = pr k c) {u : ℕ} (hu : u = 1) :
    iprop(records A R K ∗ owing c (oweBar c (4 - k)) ∗ dutyTok ER (barCell (pr k c)) 0 k ∗ ready c k)
      ⊢ iprop((owing c (oweBar c (3 - k)) -∗ run c (kt ⟨⟩) Q) -∗ run c (.op (.semSignal (n : Thread nD τ) barS u) kt) Q) := by
  subst hn hu
  unfold owing
  iintro ⟨#HR, ⟨%W, HO⟩, Ht, Hp⟩ Hk
  ihave HI := (record_bar A R K (pr k c)) $$ HR
  icases HI with ⟨#HI, #Hr⟩
  iapply (Rounds.wp_signal 𝒱₀ ER (sched A R) (c : Thread nD τ) none (dst := (pr k c : Thread nD τ)) (κ := K (pr k c, 0))
    (d := k) (by rw [duties_bar]; exact Finset.mem_range.mpr hk) (amount_bar A R (pr k c) k) () (oweBar c (3 - k)) (oweBar_peel hk c)) $$ [HO Ht Hp]
  · isplitr; · iexact HI
    isplitl [HO]; · iexact HO
    isplitl [Ht]; · iexact Ht
    isplitl [Hp]; · rw [payload_bar, pr_pr hk]; iexact Hp
    iexact Hr
  iintro HO
  iapply Hk
  iexists W; iexact HO

/-- The wait for all four partners. -/
theorem step_barrier {Q : α → sProp 𝕄} {u : ℕ} (hu : u = 4) :
    iprop(records A R K ∗ levAts L lv ∗ cred (tallyAt (barCell c) () 4) ∗ owing c (oweBar c 0) ∗ atPos ER (barCell c) 0 ∅ 0)
      ⊢ iprop(((owing c (oweDma c 8) ∗ semVal (barCell c) 0 ∗ ready (pr 0 c) 0 ∗ ready (pr 1 c) 1 ∗ ready (pr 2 c) 2 ∗ ready (pr 3 c) 3)
          -∗ run c (kt ⟨⟩) Q) -∗ run c (.op (.semWait barS u) kt) Q) := by
  subst hu
  unfold owing
  iintro ⟨#HR, #Hlev, Hc, ⟨%W, HO⟩, Hat⟩ Hk
  ihave HI := (record_bar A R K c) $$ HR
  icases HI with ⟨#HI, #-⟩
  iapply (Rounds.wp_wait_rest_token 𝒱₀ ER (sched A R) (c : Thread nD τ) none (κ := K (c, 0))
    (wpE_semWait_eq 𝒱₀ (c : Thread nD τ) none Set.univ) (Set.mem_univ _) () (O := oweDma c 8) (W := W) (R := 0) (m := 0) (T := ∅)
    (by rw [expect_bar])) $$ [Hc HO Hat]
  · isplitr; · iexact HI
    isplitl [Hc]; · iexact Hc
    isplitl [HO]; · iexact HO
    isplitr; · iapply (mayWait_dma c (.reg barS) (le_refl 8) (show (1 : ℕ) < 2 by omega)); iexact Hlev
    iexact Hat
  iintro ⟨HO, Hat, -, Hpay⟩
  imod (Rounds.cell_close ER (sched A R) (Set.mem_univ (K (c, 0))) (fun h => h) (R := 0 + 1) (duties_later A R (barCell c))) $$ [Hat] with Hz
  · isplitr; · iexact HI
    iexact Hat
  ihave Hp := (Entails.of_eq (rest_bar A R c)) $$ Hpay
  iapply Hk
  isplitl [HO]; · iexists _; iexact HO
  isplitl [Hz] <;> iassumption

/-- A wait at the semaphore of kind `q` and level `k`, still owing the last `n`: its counter is back at zero, and what it hands over is there. -/
theorem step_wait {Q : α → sProp 𝕄} {q k : ℕ} (hq : q < 4) (hk : k < 4) {n : ℕ} (hn : n ≤ 8) (hlv : lv (dCell c q k) () < 10 - n)
    {sm : DmaSem sig} (hsm : sm = ds q k) {sp sp' : Space} {s s' : Shape} {e e' : EltTy} {src : Memref sig .tc sp' s' e'} {dst : Memref sig .tc sp s e}
    {hsrc : src.view.WordExact} {hdst : dst.view.WordExact} (hN : dst.view.dmaCredit = amt k) :
    iprop(records A R K ∗ levAts L lv ∗ cred (tallyAt (dCell c q k) () (amt k)) ∗ owing c (oweDma c n) ∗ atPos ER (dCell c q k) 0 ∅ 0)
      ⊢ iprop(((owing c (oweDma c n) ∗ semVal (dCell c q k) 0 ∗ dPay A R c q k) -∗ run c (kt ⟨⟩) Q)
          -∗ run c (.op (.waitDma2 sm src dst hsrc hdst) kt) Q) := by
  subst hsm
  unfold owing
  rw [← hN]
  iintro ⟨#HR, #Hlev, Hc, ⟨%W, HO⟩, Hat⟩ Hk
  ihave HI := (record_dma A R K c hq hk) $$ HR
  icases HI with ⟨#HI, #-⟩
  iapply (Rounds.wp_wait_rest_token 𝒱₀ ER (sched A R) (c : Thread nD τ) none (κ := K (c, jj q k))
    (wpE_waitDma2_eq 𝒱₀ (c : Thread nD τ) none Set.univ) (Set.mem_univ _) () (O := oweDma c n) (W := W) (R := 0) (m := 0) (T := ∅)
    (by rw [Nat.zero_add, hN, expect_dma A R c hq hk])) $$ [Hc HO Hat]
  · isplitr; · iexact HI
    isplitl [Hc]; · iexact Hc
    isplitl [HO]; · iexact HO
    isplitr; · iapply (mayWait_dma c (.dma (ds q k)) hn hlv); iexact Hlev
    iexact Hat
  iintro ⟨HO, Hat, -, Hpay⟩
  imod (Rounds.cell_close ER (sched A R) (Set.mem_univ (K (c, jj q k))) (fun h => h) (R := 0 + 1) (duties_later A R (dCell c q k))) $$ [Hat] with Hz
  · isplitr; · iexact HI
    iexact Hat
  ihave Hp := (Entails.of_eq (rest_dma A R c hq hk)) $$ Hpay
  iapply Hk
  isplitl [HO]; · iexists _; iexact HO
  isplitl [Hz] <;> iassumption

/-- A transfer of the rows of level `k` credits the amount of that level, whatever it goes through. -/
theorem credit_rows {m : ℕ} (v : View sig .tc .vmem ⟨2, ![m, 512]⟩ .f32) {k : ℕ} (hk : k < 4) (hm : m = 512 >>> (k + 1)) : v.dmaCredit = amt k := by
  subst hm
  rw [show v.dmaCredit = RefSig.tileCredit ⟨2, ![512 >>> (k + 1), 512]⟩ .f32 from rfl]
  match k, hk with
  | 0, _ => rfl
  | 1, _ => rfl
  | 2, _ => rfl
  | 3, _ => rfl

/-! ## Transfers -/

/-- A transfer to the partner of level `k`, of the exchange whose send semaphores are of kind `q`: the rows sent are lent to the send
    semaphore, the rows written handed to the partner's receive semaphore. -/
theorem step_send {Q : α → sProp 𝕄} {q k : ℕ} (hq : q + 1 < 4) (hk : k < 4) {n : Dev nD} (hn : n = pr k c)
    {sp sp' : Space} {s : Shape} {e : EltTy} {src : Memref sig .tc sp s e} {dst : Memref sig (Dev.tc n : Thread nD τ).2.kind sp' s e}
    {hsc : dst.view.ref.isScScratch = false} {sS sR : DmaSem sig} (hS : sS = ds q k) (hR : sR = ds (q + 1) k)
    {hsrc : src.view.WordExact} {hdst : dst.view.WordExact} {hsem : DmaTarget.Typed sp (.dma sR) (.remote (Dev.tc n : Thread nD τ) dst (.dma sS) hsc)}
    (hN : dst.view.dmaCredit = amt k) {O : CellTallies nD τ sig Unit} (O' : CellTallies nD τ sig Unit)
    (hO : O = O' + tallyAt (dCell (pr k c) (q + 1) k) () (amt k))
    {p : PosShare TreeShare} {fs : Buf (Elt F) (src.view.loc (c : Thread nD τ))} {fd : Buf (Elt F) (dst.view.loc (n : Thread nD τ))}
    (h₁ : (src.view.loc (c : Thread nD τ) ↦[src.view.set]{p} fs) ⊢ dPay A R c q k)
    (h₂ : (dst.view.loc (n : Thread nD τ) ↦[dst.view.set]{fullShare} (dst.view.write (Elt F) fd (src.view.read (Elt F) fs) Finset.univ)) ⊢ dPay A R n (q + 1) k) :
    iprop(records A R K ∗ (src.view.loc (c : Thread nD τ) ↦[src.view.set]{p} fs) ∗ (dst.view.loc (n : Thread nD τ) ↦[dst.view.set]{fullShare} fd)
        ∗ owing c O ∗ dutyTok ER (dCell c q k) 0 0 ∗ dutyTok ER (dCell (pr k c) (q + 1) k) 0 0)
      ⊢ iprop(((cred (tallyAt (dCell c q k) () (amt k)) ∗ owing c O') -∗ run c (kt ⟨⟩) Q)
          -∗ run c (.op (.enqueueDma src (.remote (Dev.tc n : Thread nD τ) dst (.dma sS) hsc) (.dma sR) hsrc hdst hsem) kt) Q) := by
  subst hn hS hR
  unfold owing
  iintro ⟨#HR, Hs, Hd, ⟨%W, HO⟩, Ht₁, Ht₂⟩ Hk
  ihave HI := (record_dma A R K c (q := q) (by omega) hk) $$ HR
  icases HI with ⟨#HI₁, #Hr₁⟩
  ihave HI := (record_dma A R K (pr k c) hq hk) $$ HR
  icases HI with ⟨#HI₂, #Hr₂⟩
  iapply (Rounds.wp_send_pointsTo 𝒱₀ ER (sched A R) (c : Thread nD τ) none (κ₁ := K (c, jj q k)) (κ₂ := K (pr k c, jj (q + 1) k))
    (r₁ := 0) (r₂ := 0) (d₁ := 0) (d₂ := 0) (fd := fd)
    (by rw [duties_dma]; exact Finset.mem_singleton_self _) (by rw [duties_dma]; exact Finset.mem_singleton_self _)
    () () (amt k) ((View.amount_dma _ _).trans hN) (amount_dma A R c (by omega) hk 0) (amount_dma A R (pr k c) hq hk 0) O' hO (W := W)
    (by rw [payload_dma A R c (by omega) hk]; exact h₁) (by rw [payload_dma A R (pr k c) hq hk]; exact h₂)) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

end Rules

/-! ## Between the exchanges -/

abbrev xM : Memref sig .tc .vmem S512x512 .f32 := Memref.whole cc0_stg0_0
abbrev uM : Memref sig .tc .vmem S512x1024 .f32 := Memref.whole cc0_stg1_0
abbrev vM : Memref sig .tc .vmem S1024x512 .f32 := Memref.whole cc0_stg2_0
abbrev outM : Memref sig .tc .vmem S512x512 .f32 := Memref.whole cc0_stg3_0
abbrev accM : Memref sig .tc .vmem S512x512 .f32 := Memref.whole cc0_scratch0

section Local

variable (c : Dev nD) {α : Type} {a n : ℕ} {off : Fin 2 → ℕ} {inb : ∀ i, off i + (![n, 512] : Fin 2 → ℕ) i ≤ S512x512.size i}

/-- The rectangle of `n` rows a memref of the kernel is accessed at. -/
abbrev rect (n : ℕ) (off : Fin 2 → ℕ) (inb : ∀ i, off i + (![n, 512] : Fin 2 → ℕ) i ≤ S512x512.size i) : Rect S512x512 := Rect.unit (s := S512x512) off ![n, 512] inb

theorem accM_set (h : off = ![a, 0]) : (accM.access (rect n off inb)).set = rows a n := (View.set_slice_whole _ _).trans (rect_set h)
theorem outM_set (h : off = ![a, 0]) : (outM.access (rect n off inb)).set = rows a n := (View.set_slice_whole _ _).trans (rect_set h)

/-- Loading rows out of any elements that include them. -/
theorem step_load {Q : α → sProp 𝕄} (h : off = ![a, 0]) (m : Memref sig .tc .vmem S512x512 .f32) {S : Finset (Idx (m.view.loc (c : Thread nD τ)))}
    {q : PosShare TreeShare} {f : Buf (Elt F) (m.view.loc (c : Thread nD τ))} (hS : (m.access (rect n off inb)).set ⊆ S)
    {hl : m.view.LoadsAt (rect n off inb).toLoadRect} {kl : ((⟨2, ![n, 512]⟩ : Shape).Idx → Elt F .f32) → Prog (TpuEff nD τ sig (Elt F) Λ₀ .tc) α} :
    (m.view.loc (c : Thread nD τ) ↦[S]{q} f)
      ⊢ iprop(((m.view.loc (c : Thread nD τ) ↦[S]{q} f) -∗ run c (kl (rd a n (m.view.read (Elt F) f))) Q)
          -∗ run c (.op (.load m (rect n off inb).toLoadRect hl) kl) Q) := by
  have H := wp_load_rect (defs := defs₀ (F := F)) 𝒱₀ (c : Thread nD τ) none (Γ := .empty) Set.univ (Q := Q) (m := m) (r := rect n off inb) (hl := hl) (k := kl)
    (S := S) (q := q) (f := f) hS
  have e : (m.access (rect n off inb)).read (Elt F) f = rd a n (m.view.read (Elt F) f) := read_rows (inb := inb) m.view f h
  rw [e] at H
  exact H

/-- Storing rows of `g` leaves `g` there. -/
theorem step_store {Q : α → sProp 𝕄} (h : off = ![a, 0]) (m : Memref sig .tc .vmem S512x512 .f32) (f g : Buf (Elt F) (m.view.loc (c : Thread nD τ)))
    {w : (⟨2, ![n, 512]⟩ : Shape).Idx → Elt F .f32} (hw : w = rd a n (m.view.read (Elt F) g))
    {hx : (m.access (rect n off inb)).Stores Finset.univ} {hm : (Finset.univ : Finset (rect n off inb).shape.Idx) = Finset.univ ∨ ∀ a, (rect n off inb).stride a = 1}
    {kt : PUnit → Prog (TpuEff nD τ sig (Elt F) Λ₀ .tc) α} :
    (m.view.loc (c : Thread nD τ) ↦[(m.access (rect n off inb)).set]{fullShare} f)
      ⊢ iprop(((m.view.loc (c : Thread nD τ) ↦[(m.access (rect n off inb)).set]{fullShare} g) -∗ run c (kt ⟨⟩) Q)
          -∗ run c (.op (.store m (rect n off inb) w Finset.univ hx hm) kt) Q) := by
  subst hw
  have H := wp_store (defs := defs₀ (F := F)) 𝒱₀ (c : Thread nD τ) none (Γ := .empty) Set.univ (Q := Q) (m := m) (r := rect n off inb) (w := rd a n (m.view.read (Elt F) g))
    (Mk := Finset.univ) (hx := hx) (hm := hm) (k := kt) (S := (m.access (rect n off inb)).set) (f := f) (le_of_eq (View.setOn_univ _))
  have e := pointsTo_congr (Ix := Unit) (Name := ℕ) (U := UU) (Lvl := ℕ) (ℓ := (m.access (rect n off inb)).loc (c : Thread nD τ)) (I := (m.access (rect n off inb)).set) (q := fullShare)
    (f := (m.access (rect n off inb)).write (Elt F) f (rd a n (m.view.read (Elt F) g)) Finset.univ) (g := g)
    (fun i hi => write_rows (inb := inb) m.view f g h hi)
  exact H.trans (wand_mono_left (wand_mono_left (Entails.of_eq e)))

theorem zeros : (![0, 0] : Fin 2 → ℕ) = fun _ => 0 := by decide

/-- Loading a buffer whole. -/
theorem step_load_all {Q : α → sProp 𝕄} {i : Fin (sig.nNear .tc .vmem)} {hκ : sig.names .tc .vmem i = true} {off : Fin (sig.tyNear .tc .vmem i).shape.rank → ℕ}
    (h : off = fun _ => 0) {inb : ∀ a, off a + (sig.tyNear .tc .vmem i).shape.size a ≤ (sig.tyNear .tc .vmem i).shape.size a} {f : (sig.tyNear .tc .vmem i).Contents (Elt F)}
    {hl : (Memref.whole ⟨.vmem, i, hκ⟩ : Memref sig .tc _ _ _).view.LoadsAt (Rect.unit off (sig.tyNear .tc .vmem i).shape.size inb).toLoadRect}
    {kl : (sig.tyNear .tc .vmem i).Contents (Elt F) → Prog (TpuEff nD τ sig (Elt F) Λ₀ .tc) α} :
    bufP c ⟨.vmem, i, hκ⟩ f
      ⊢ iprop((bufP c ⟨.vmem, i, hκ⟩ f -∗ run c (kl f) Q)
          -∗ run c (.op (.load (Memref.whole ⟨.vmem, i, hκ⟩) (Rect.unit off (sig.tyNear .tc .vmem i).shape.size inb).toLoadRect hl) kl) Q) := by
  have H := wp_load (defs := defs₀ (F := F)) 𝒱₀ (c : Thread nD τ) none (Γ := .empty) Set.univ (Q := Q) (m := Memref.whole ⟨.vmem, i, hκ⟩)
    (r := (Rect.unit off (sig.tyNear .tc .vmem i).shape.size inb).toLoadRect) (hl := hl) (k := kl) (q := fullShare) (f := f) (S := Finset.univ) (Finset.subset_univ _)
  rwa [Memref.readAt_unit_zero (Elt F) ⟨.vmem, i, hκ⟩ h inb f] at H

/-- Rows of the input block; -/
theorem step_load_x {Q : α → sProp 𝕄} (h : off = ![a, 0]) {x : Vec F S512x512 .f32} {hl : xM.view.LoadsAt (rect n off inb).toLoadRect}
    {kl : ((⟨2, ![n, 512]⟩ : Shape).Idx → Elt F .f32) → Prog (TpuEff nD τ sig (Elt F) Λ₀ .tc) α} :
    bufP c cc0_stg0_0 x ⊢ iprop((bufP c cc0_stg0_0 x -∗ run c (kl (rd a n x)) Q) -∗ run c (.op (.load xM (rect n off inb).toLoadRect hl) kl) Q) :=
  step_load (inb := inb) c h xM (S := Finset.univ) (q := fullShare) (f := x) (Finset.subset_univ _) (hl := hl) (kl := kl)
/-- of the result; -/
theorem step_load_out {Q : α → sProp 𝕄} (h : off = ![a, 0]) {f : Vec F S512x512 .f32} {hl : outM.view.LoadsAt (rect n off inb).toLoadRect}
    {kl : ((⟨2, ![n, 512]⟩ : Shape).Idx → Elt F .f32) → Prog (TpuEff nD τ sig (Elt F) Λ₀ .tc) α} :
    outP c (rows a n) fullShare f ⊢ iprop((outP c (rows a n) fullShare f -∗ run c (kl (rd a n f)) Q) -∗ run c (.op (.load outM (rect n off inb).toLoadRect hl) kl) Q) :=
  step_load (inb := inb) c h outM (S := rows a n) (q := fullShare) (f := f) (le_of_eq (outM_set h)) (hl := hl) (kl := kl)
/-- of the accumulator. -/
theorem step_load_acc {Q : α → sProp 𝕄} (h : off = ![a, 0]) {f : Vec F S512x512 .f32} {hl : accM.view.LoadsAt (rect n off inb).toLoadRect}
    {kl : ((⟨2, ![n, 512]⟩ : Shape).Idx → Elt F .f32) → Prog (TpuEff nD τ sig (Elt F) Λ₀ .tc) α} :
    accP c (rows a n) f ⊢ iprop((accP c (rows a n) f -∗ run c (kl (rd a n f)) Q) -∗ run c (.op (.load accM (rect n off inb).toLoadRect hl) kl) Q) :=
  step_load (inb := inb) c h accM (S := rows a n) (q := fullShare) (f := f) (le_of_eq (accM_set h)) (hl := hl) (kl := kl)

/-- Storing rows of `g` into the accumulator; -/
theorem step_store_acc {Q : α → sProp 𝕄} (h : off = ![a, 0]) {f : Vec F S512x512 .f32} (g : Vec F S512x512 .f32) {w : (⟨2, ![n, 512]⟩ : Shape).Idx → Elt F .f32} (hw : w = rd a n g)
    {hx : (accM.access (rect n off inb)).Stores Finset.univ} {hm : (Finset.univ : Finset (rect n off inb).shape.Idx) = Finset.univ ∨ ∀ a, (rect n off inb).stride a = 1}
    {kt : PUnit → Prog (TpuEff nD τ sig (Elt F) Λ₀ .tc) α} :
    accP c (rows a n) f ⊢ iprop((accP c (rows a n) g -∗ run c (kt ⟨⟩) Q) -∗ run c (.op (.store accM (rect n off inb) w Finset.univ hx hm) kt) Q) := by
  have H := step_store (inb := inb) (Q := Q) c h accM f g hw (hx := hx) (hm := hm) (kt := kt)
  rwa [accM_set h] at H
/-- into the result. -/
theorem step_store_out {Q : α → sProp 𝕄} (h : off = ![a, 0]) {f : Vec F S512x512 .f32} (g : Vec F S512x512 .f32) {w : (⟨2, ![n, 512]⟩ : Shape).Idx → Elt F .f32} (hw : w = rd a n g)
    {hx : (outM.access (rect n off inb)).Stores Finset.univ} {hm : (Finset.univ : Finset (rect n off inb).shape.Idx) = Finset.univ ∨ ∀ a, (rect n off inb).stride a = 1}
    {kt : PUnit → Prog (TpuEff nD τ sig (Elt F) Λ₀ .tc) α} :
    outP c (rows a n) fullShare f ⊢ iprop((outP c (rows a n) fullShare g -∗ run c (kt ⟨⟩) Q) -∗ run c (.op (.store outM (rect n off inb) w Finset.univ hx hm) kt) Q) := by
  have H := step_store (inb := inb) (Q := Q) c h outM f g hw (hx := hx) (hm := hm) (kt := kt)
  rwa [outM_set h] at H

/-- A half of the rows of the device's product. -/
theorem step_part {Q : α → sProp 𝕄} (h : off = ![a, 0]) (ha : a = 0 ∨ a = 256) {inb : ∀ i, off i + (![256, 512] : Fin 2 → ℕ) i ≤ S512x512.size i}
    {pay : Vec F S256x512 .f32 → Vec F S512x1024 .f32 → Vec F S1024x512 .f32 → Vec F S256x512 .f32} (hp : pay = k0_pay1)
    {iu : ∀ i, (![0, 0] : Fin 2 → ℕ) i + S512x1024.size i ≤ S512x1024.size i} {iv : ∀ i, (![0, 0] : Fin 2 → ℕ) i + S1024x512.size i ≤ S1024x512.size i}
    {x : Vec F S512x512 .f32} {u : Vec F S512x1024 .f32} {v : Vec F S1024x512 .f32} {f : Vec F S512x512 .f32}
    {l1 : xM.view.LoadsAt (rect 256 off inb).toLoadRect} {l2 : uM.view.LoadsAt (Rect.unit (s := S512x1024) ![0, 0] S512x1024.size iu).toLoadRect}
    {l3 : vM.view.LoadsAt (Rect.unit (s := S1024x512) ![0, 0] S1024x512.size iv).toLoadRect} {l4 : accM.view.LoadsAt (rect 256 off inb).toLoadRect}
    {hx : (accM.access (rect 256 off inb)).Stores Finset.univ} {hm : (Finset.univ : Finset (rect 256 off inb).shape.Idx) = Finset.univ ∨ ∀ a, (rect 256 off inb).stride a = 1}
    {kt : PUnit → Prog (TpuEff nD τ sig (Elt F) Λ₀ .tc) α} :
    iprop(bufP c cc0_stg0_0 x ∗ bufP c cc0_stg1_0 u ∗ bufP c cc0_stg2_0 v ∗ accP c (rows a 256) f)
      ⊢ iprop(((bufP c cc0_stg0_0 x ∗ bufP c cc0_stg1_0 u ∗ bufP c cc0_stg2_0 v ∗ accP c (rows a 256) (Contents.part x u v)) -∗ run c (kt ⟨⟩) Q)
          -∗ run c (.op (.load xM (rect 256 off inb).toLoadRect l1) fun w₁ =>
              .op (.load uM (Rect.unit (s := S512x1024) ![0, 0] S512x1024.size iu).toLoadRect l2) fun w₂ =>
              .op (.load vM (Rect.unit (s := S1024x512) ![0, 0] S1024x512.size iv).toLoadRect l3) fun w₃ =>
              .op (.load accM (rect 256 off inb).toLoadRect l4) fun _ =>
              .op (.store accM (rect 256 off inb) (pay w₁ w₂ w₃) Finset.univ hx hm) kt) Q) := by
  subst hp
  iintro ⟨Hx, Hu, Hv, Ha⟩ Hk
  iapply (step_load_x c h) $$ Hx
  iintro Hx
  iapply (step_load_all c zeros (f := u)) $$ [Hu]
  · iexact Hu
  iintro Hu
  iapply (step_load_all c zeros (f := v)) $$ [Hv]
  · iexact Hv
  iintro Hv
  iapply (step_load_acc c h) $$ Ha
  iintro Ha
  iapply (step_store_acc c h (Contents.part x u v) (Contents.rd_part x u v ha).symm) $$ Ha
  iintro Ha
  iapply Hk
  isplitl [Hx]; · iexact Hx
  isplitl [Hu]; · iexact Hu
  isplitl [Hv]; · iexact Hv
  iexact Ha

/-- The sum of the rows kept and the rows that arrived. -/
theorem step_fold {Q : α → sProp 𝕄} (h : off = ![a, 0]) {i : Fin (sig.nNear .tc .vmem)} {hκ : sig.names .tc .vmem i = true} {off' : Fin (sig.tyNear .tc .vmem i).shape.rank → ℕ}
    (h' : off' = fun _ => 0) {inb' : ∀ a, off' a + (sig.tyNear .tc .vmem i).shape.size a ≤ (sig.tyNear .tc .vmem i).shape.size a} {f : Vec F S512x512 .f32}
    {g : (sig.tyNear .tc .vmem i).Contents (Elt F)} (s : Vec F S512x512 .f32)
    {pay : Vec F ⟨2, ![n, 512]⟩ .f32 → (sig.tyNear .tc .vmem i).Contents (Elt F) → Vec F ⟨2, ![n, 512]⟩ .f32} (hp : pay (rd a n f) g = rd a n s)
    {l1 l3 : accM.view.LoadsAt (rect n off inb).toLoadRect}
    {l2 : (Memref.whole ⟨.vmem, i, hκ⟩ : Memref sig .tc _ _ _).view.LoadsAt (Rect.unit off' (sig.tyNear .tc .vmem i).shape.size inb').toLoadRect}
    {hx : (accM.access (rect n off inb)).Stores Finset.univ} {hm : (Finset.univ : Finset (rect n off inb).shape.Idx) = Finset.univ ∨ ∀ a, (rect n off inb).stride a = 1}
    {kt : PUnit → Prog (TpuEff nD τ sig (Elt F) Λ₀ .tc) α} :
    iprop(accP c (rows a n) f ∗ bufP c ⟨.vmem, i, hκ⟩ g)
      ⊢ iprop(((accP c (rows a n) s ∗ bufP c ⟨.vmem, i, hκ⟩ g) -∗ run c (kt ⟨⟩) Q)
          -∗ run c (.op (.load accM (rect n off inb).toLoadRect l1) fun w₁ =>
              .op (.load (Memref.whole ⟨.vmem, i, hκ⟩) (Rect.unit off' (sig.tyNear .tc .vmem i).shape.size inb').toLoadRect l2) fun w₂ =>
              .op (.load accM (rect n off inb).toLoadRect l3) fun _ =>
              .op (.store accM (rect n off inb) (pay w₁ w₂) Finset.univ hx hm) kt) Q) := by
  iintro ⟨Ha, Hg⟩ Hk
  iapply (step_load_acc c h) $$ Ha
  iintro Ha
  iapply (step_load_all c h') $$ Hg
  iintro Hg
  iapply (step_load_acc c h) $$ Ha
  iintro Ha
  iapply (step_store_acc c h s hp) $$ Ha
  iintro Ha
  iapply Hk
  isplitl [Ha]; · iexact Ha
  iexact Hg

/-- The copy of the accumulator's last rows into the result. -/
theorem step_copy {Q : α → sProp 𝕄} (h : off = ![a, 0]) {f f' : Vec F S512x512 .f32} (g : Vec F S512x512 .f32) (hg : rd a n f = rd a n g)
    {l1 : accM.view.LoadsAt (rect n off inb).toLoadRect} {l2 : outM.view.LoadsAt (rect n off inb).toLoadRect}
    {hx : (outM.access (rect n off inb)).Stores Finset.univ} {hm : (Finset.univ : Finset (rect n off inb).shape.Idx) = Finset.univ ∨ ∀ a, (rect n off inb).stride a = 1}
    {kt : PUnit → Prog (TpuEff nD τ sig (Elt F) Λ₀ .tc) α} :
    iprop(accP c (rows a n) f ∗ outP c (rows a n) fullShare f')
      ⊢ iprop(((accP c (rows a n) f ∗ outP c (rows a n) fullShare g) -∗ run c (kt ⟨⟩) Q)
          -∗ run c (.op (.load accM (rect n off inb).toLoadRect l1) fun w =>
              .op (.load outM (rect n off inb).toLoadRect l2) fun _ =>
              .op (.store outM (rect n off inb) w Finset.univ hx hm) kt) Q) := by
  iintro ⟨Ha, Ho⟩ Hk
  iapply (step_load_acc c h) $$ Ha
  iintro Ha
  iapply (step_load_out c h) $$ Ho
  iintro Ho
  iapply (step_store_out c h g hg) $$ Ho
  iintro Ho
  iapply Hk
  isplitl [Ha]; · iexact Ha
  iexact Ho

end Local

/-! ## The transfers of the two phases -/

section Phases

variable (A : ℕ → Dev nD → Vec F S512x512 .f32) (R : Vec F S512x512 .f32) (K : Dev nD × Fin 17 → ℕ) (c : Dev nD)
variable {α : Type} {a m : ℕ} {off : Fin 2 → ℕ} {inb : ∀ i, off i + (![m, 512] : Fin 2 → ℕ) i ≤ S512x512.size i}
  {cast : ∀ a, (rect m off inb).stride a = 1}

theorem accM_slice_set (h : off = ![a, 0]) : (accM.slice (rect m off inb) cast).view.set = rows a m := accM_set h
theorem outM_slice_set (h : off = ![a, 0]) : (outM.slice (rect m off inb) cast).view.set = rows a m := outM_set h

/-- The rows sent at level `k` of the reduction, into the partner's landing buffer. -/
theorem step_reduce {Q : α → sProp 𝕄} {k : ℕ} (hk : k < 4) {n : Dev nD} (hn : n = pr k c) (h : off = ![sn k c, 0]) (hm : m = len k)
    (g : Memref sig .tc .vmem ⟨2, ![m, 512]⟩ .f32)
    {hsc : g.view.ref.isScScratch = false} {sS sR : DmaSem sig} (hS : sS = ds 0 k) (hR : sR = ds 1 k) (hN : g.view.dmaCredit = amt k)
    (hany : landAny (F := F) (pr k c) k = iprop(∃ fd, g.view.loc (pr k c : Thread nD τ) ↦[g.view.set]{fullShare} fd))
    (hland : ∀ fd, (g.view.loc (pr k c : Thread nD τ) ↦[g.view.set]{fullShare} (g.view.write (Elt F) fd (rd (sn k c) m (A k c)) Finset.univ)) ⊢ landed A (pr k c) k)
    {hsrc : (accM.slice (rect m off inb) cast).view.WordExact} {hdst : g.view.WordExact}
    {hsem : DmaTarget.Typed .vmem (.dma sR) (.remote (Dev.tc n : Thread nD τ) g (.dma sS) hsc)}
    {kt : PUnit → Prog (TpuEff nD τ sig (Elt F) Λ₀ .tc) α} :
    iprop(records A R K ∗ accP c (Bk k c) (A k c) ∗ landAny (pr k c) k ∗ owing c (oweDma c (8 - k)) ∗ dutyTok ER (dCell c 0 k) 0 0 ∗ dutyTok ER (dCell (pr k c) 1 k) 0 0)
      ⊢ iprop(((cred (tallyAt (dCell c 0 k) () (amt k)) ∗ owing c (oweDma c (7 - k))) -∗ run c (kt ⟨⟩) Q)
          -∗ run c (.op (.enqueueDma (accM.slice (rect m off inb) cast) (.remote (Dev.tc n : Thread nD τ) g (.dma sS) hsc) (.dma sR) hsrc hdst hsem) kt) Q) := by
  subst hn
  have hset : (accM.slice (rect m off inb) cast).view.set = Bk k c := (accM_slice_set h).trans (congrArg (rows (sn k c)) hm)
  have hread : (accM.slice (rect m off inb) cast).view.read (Elt F) (A k c) = rd (sn k c) m (A k c) := read_rows (inb := inb) accM.view (A k c) h
  rw [hany]
  iintro ⟨#HR, Ha, ⟨%fd, Hd⟩, HO, Ht₁, Ht₂⟩ Hk
  iapply (step_send A R K c (q := 0) (by decide) hk rfl (src := accM.slice (rect m off inb) cast) (dst := g) hS hR hN (oweDma c (7 - k)) (oweDma_reduce hk c)
    (p := fullShare) (fs := A k c) (fd := fd)
    (by rw [hset]; exact .rfl) (by rw [hread]; exact hland fd)) $$ [Ha Hd HO Ht₁ Ht₂]
  · isplitr; · iexact HR
    isplitl [Ha]; · rw [hset]; unfold accP; iexact Ha
    isplitl [Hd]; · iexact Hd
    isplitl [HO]; · iexact HO
    isplitl [Ht₁]; · iexact Ht₁
    iexact Ht₂
  iexact Hk

/-- The rows sent at level `k` of the gathering, into the same rows of the partner's result. -/
theorem step_gather {Q : α → sProp 𝕄} {k : ℕ} (hk : k < 4) {n : Dev nD} (hn : n = pr k c) (h : off = ![kp (k + 1) c, 0]) (hm : m = 512 >>> (k + 1))
    {cast' : ∀ a, (rect m off inb).stride a = 1}
    {hsc : (outM.slice (rect m off inb) cast').view.ref.isScScratch = false} {sS sR : DmaSem sig} (hS : sS = ds 2 k) (hR : sR = ds 3 k)
    (hN : (outM.slice (rect m off inb) cast').view.dmaCredit = amt k)
    {hsrc : (outM.slice (rect m off inb) cast).view.WordExact} {hdst : (outM.slice (rect m off inb) cast').view.WordExact}
    {hsem : DmaTarget.Typed .vmem (.dma sR) (.remote (Dev.tc n : Thread nD τ) (outM.slice (rect m off inb) cast') (.dma sS) hsc)}
    {kt : PUnit → Prog (TpuEff nD τ sig (Elt F) Λ₀ .tc) α} :
    iprop(records A R K ∗ outP c (Kp (k + 1) c) (sh k) R ∗ (∃ f, outP (pr k c) (Bk k (pr k c)) fullShare f) ∗ owing c (oweDma c (k + 1))
        ∗ dutyTok ER (dCell c 2 k) 0 0 ∗ dutyTok ER (dCell (pr k c) 3 k) 0 0)
      ⊢ iprop(((cred (tallyAt (dCell c 2 k) () (amt k)) ∗ owing c (oweDma c k)) -∗ run c (kt ⟨⟩) Q)
          -∗ run c (.op (.enqueueDma (outM.slice (rect m off inb) cast) (.remote (Dev.tc n : Thread nD τ) (outM.slice (rect m off inb) cast') (.dma sS) hsc) (.dma sR) hsrc hdst hsem) kt) Q) := by
  subst hn
  have hset : (outM.slice (rect m off inb) cast).view.set = Kp (k + 1) c := (outM_slice_set h).trans (congrArg (rows (kp (k + 1) c)) hm)
  have hread : (outM.slice (rect m off inb) cast).view.read (Elt F) R = rd (kp (k + 1) c) m R := read_rows (inb := inb) outM.view R h
  iintro ⟨#HR, Ha, ⟨%fd, Hd⟩, HO, Ht₁, Ht₂⟩ Hk
  iapply (step_send A R K c (q := 2) (by decide) hk rfl (src := outM.slice (rect m off inb) cast) (dst := outM.slice (rect m off inb) cast') hS hR hN
    (oweDma c k) (oweDma_gather hk c) (p := sh k) (fs := R) (fd := fd)
    (by rw [hset]; exact .rfl) (by
      rw [hread]
      show _ ⊢ outP (pr k c) (Bk k (pr k c)) fullShare R
      unfold outP
      rw [Bk_pr hk, ← hset]
      exact Entails.of_eq (pointsTo_congr (fun i hi => write_rows (inb := inb) outM.view fd R h hi)))) $$ [Ha Hd HO Ht₁ Ht₂]
  · isplitr; · iexact HR
    isplitl [Ha]; · rw [hset]; unfold outP; iexact Ha
    isplitl [Hd]; · rw [show (outM.slice (rect m off inb) cast').view.set = Bk k (pr k c) from (hset.trans (Bk_pr hk c).symm)]; unfold outP; iexact Hd
    isplitl [HO]; · iexact HO
    isplitl [Ht₁]; · iexact Ht₁
    iexact Ht₂
  iexact Hk

end Phases

end Cert.Steps
-- ==== Proof.Body.lean ====
/-
# One device's run

The printed parts of the kernel's body one after the other, each from what a device holds before it to what it holds
after it, and the body as their composition.
-/
module

public import proofs.«01_k».proof.Proof.Steps
public import Idealize.ShloMosaic.Lib.Pipeline.Value

@[expose] public section

noncomputable section

namespace Cert.Body

open Cert.KernelIdeal Cert.KernelIdeal.Gen Cert.Cube Cert.Protocol Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x512 .f32) (U : Dev nD → Vec F S512x1024 .f32) (V : Dev nD → Vec F S1024x512 .f32)
variable (K : Dev nD × Fin 17 → ℕ) (c : Dev nD)

/-- What every step reads and none uses up. -/
def ctx : sProp 𝕄 := iprop(records (Contents.acc X U V) (Contents.total X U V) K ∗ levAts L lv)
instance ctx_persistent : Persistent (ctx X U V K) := by unfold ctx; infer_instance

/-- The three input blocks. -/
def ins : sProp 𝕄 := iprop(bufP c cc0_stg0_0 (X c) ∗ bufP c cc0_stg1_0 (U c) ∗ bufP c cc0_stg2_0 (V c))

/-- The rows of the result at level `k` that are a partner's to write. -/
def outAny (k : ℕ) : sProp 𝕄 := iprop(∃ f, outP (pr k c) (Bk k (pr k c)) fullShare f)

/-- What a device starts level `k` of the phase of kind `q` with: the round both its semaphores are in, the right to credit its own send
    semaphore and its partner's receive semaphore, the credit the partner owes. -/
def toks (q k : ℕ) : sProp 𝕄 :=
  iprop(atPos ER (dCell c q k) 0 ∅ 0 ∗ atPos ER (dCell c (q + 1) k) 0 ∅ 0 ∗ dutyTok ER (dCell c q k) 0 0 ∗ dutyTok ER (dCell (pr k c) (q + 1) k) 0 0
    ∗ cred (tallyAt (dCell c (q + 1) k) () (amt k)))
/-- A transfer on its way, to be waited for at the semaphore of kind `q`. -/
def sent (q k : ℕ) : sProp 𝕄 := iprop(atPos ER (dCell c q k) 0 ∅ 0 ∗ cred (tallyAt (dCell c q k) () (amt k)))

theorem sn_zero_or (c : Dev nD) : sn 0 c = 0 ∨ sn 0 c = 256 := by revert c; decide +kernel
theorem kp_one_or (c : Dev nD) : kp 1 c = 0 ∨ kp 1 c = 256 := by revert c; decide +kernel

/-- A wait of the protocol comes before everything still owed at it. -/
theorem lv_low {q k n : ℕ} (h : (q = 1 ∧ k + n < 8 ∧ k < 4) ∨ (q = 3 ∧ n ≤ k ∧ k < 4)) : lv (dCell c q k) () < 10 - n := by
  rcases h with ⟨rfl, h, hk⟩ | ⟨rfl, h, hk⟩
  · rw [lv_dma c (by decide) hk, if_pos rfl]; omega
  · rw [lv_dma c (by decide) hk, if_neg (by decide), if_pos rfl]; omega

/-- The waits at the send semaphores come when nothing is owed. -/
theorem lv_send {q k : ℕ} (hq : q = 0 ∨ q = 2) (hk : k < 4) : lv (dCell c q k) () < 10 - 0 := by
  rw [lv_dma c (by omega) hk, if_neg (by omega), if_neg (by omega)]; decide

theorem ready_eq (k : ℕ) : ready (F := F) (pr k c) k = iprop(landAny (pr k c) k ∗ outAny c k) := rfl

/-- A part of the program, then the rest. -/
theorem run_bind {α β : Type} {p : Prog (TpuEff nD τ sig (Elt F) Λ₀ .tc) α} {k : α → Prog (TpuEff nD τ sig (Elt F) Λ₀ .tc) β} {P P' : sProp 𝕄}
    {Q : β → sProp 𝕄} (h : P ⊢ run c p (fun _ => P')) :
    P ⊢ iprop((∀ r, P' -∗ run c (k r) Q) -∗ run c (p.bind k) Q) := by
  have e : run c (p.bind k) Q = run c p (fun a => run c (k a) Q) := wp_bind _ _ _ p k Q
  rw [e]
  exact h.trans (wp_wand _ _ _)

/-- The signals, the wait for the partners, the product on the rows sent first. -/
theorem part3_run (v28 v38 v48 v58 v68 : BitVec 32) :
    iprop(ctx X U V K ∗ owing c (oweBar c 3) ∗ dutyTok ER (barCell (pr 1 c)) 0 1 ∗ dutyTok ER (barCell (pr 2 c)) 0 2 ∗ dutyTok ER (barCell (pr 3 c)) 0 3
        ∗ ready c 1 ∗ ready c 2 ∗ ready c 3 ∗ cred (tallyAt (barCell c) () 4) ∗ atPos ER (barCell c) 0 ∅ 0 ∗ ins X U V c ∗ ∃ f, accP c (Bk 0 c) f)
      ⊢ run c (k0_part3 (F := F) xM (Memref.isWhole_whole _) uM (Memref.isWhole_whole _) vM (Memref.isWhole_whole _) outM (Memref.isWhole_whole _) accM (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v28 v38 v48 v58 v68 (SemArray.scalar (sig.barrier 0 rfl)))
        (fun _ => iprop(owing c (oweDma c 8) ∗ semVal (barCell c) 0 ∗ ready (pr 0 c) 0 ∗ ready (pr 1 c) 1 ∗ ready (pr 2 c) 2 ∗ ready (pr 3 c) 3
          ∗ ins X U V c ∗ accP c (Bk 0 c) (Contents.acc X U V 0 c))) := by
  rw [k0_part3_eq_skeleton]; unfold k0_part3_skel
  simp only [semSignalWord, semWaitWord, Prog.lift, Prog.bind_op, Prog.bind_ret, Prog.pure_eq_ret]
  unfold ctx ins
  iintro ⟨⟨#HR, #Hlev⟩, HO, Ht1, Ht2, Ht3, Hr1, Hr2, Hr3, Hc, Hat, ⟨Hx, Hu, Hv⟩, ⟨%f, Ha⟩⟩
  iapply (step_signal _ _ K c (k := 1) (by decide) (dev2_eq c) (by decide)) $$ [$HR $HO $Ht1 $Hr1]
  iintro HO
  iapply (step_signal _ _ K c (k := 2) (by decide) (dev3_eq c) (by decide)) $$ [$HR $HO $Ht2 $Hr2]
  iintro HO
  iapply (step_signal _ _ K c (k := 3) (by decide) (dev4_eq c) (by decide)) $$ [$HR $HO $Ht3 $Hr3]
  iintro HO
  iapply (step_barrier _ _ K c (by decide)) $$ [$HR $Hlev $Hc $HO $Hat]
  iintro ⟨HO, Hz, Hp0, Hp1, Hp2, Hp3⟩
  iapply (step_part c (off1_eq c) (sn_zero_or c) rfl) $$ [$Hx $Hu $Hv $Ha]
  iintro ⟨Hx, Hu, Hv, Ha⟩
  unfold run; rw [wp_ret]; imodintro
  iframe HO Hz Hp0 Hp1 Hp2 Hp3 Hx Hu Hv
  iexact Ha

/-- A landing buffer holding anything, as the transfer into it takes it; -/
theorem whole_any (d : Dev nD) {i : Fin (sig.nNear .tc .vmem)} {hκ : sig.names .tc .vmem i = true} :
    iprop(∃ f, bufP d ⟨.vmem, i, hκ⟩ f)
      = (iprop(∃ f, (Memref.whole ⟨.vmem, i, hκ⟩ : Memref sig .tc _ _ _).view.loc (d : Thread nD τ) ↦[(Memref.whole ⟨.vmem, i, hκ⟩ : Memref sig .tc _ _ _).view.set]{fullShare} f) : sProp 𝕄) := by
  rw [show (Memref.whole ⟨.vmem, i, hκ⟩ : Memref sig .tc _ _ _).view.set = Finset.univ from View.set_whole _]; rfl
theorem buf_any (d : Dev nD) {i : Fin (sig.nNear .tc .vmem)} {hκ : sig.names .tc .vmem i = true} (f : (sig.tyNear .tc .vmem i).Contents (Elt F)) :
    bufP d ⟨.vmem, i, hκ⟩ f ⊢ (iprop(∃ f, bufP d ⟨.vmem, i, hκ⟩ f) : sProp 𝕄) := by iintro H; iexists f; iexact H
/-- and as the transfer leaves it. -/
theorem whole_landed (d : Dev nD) {i : Fin (sig.nNear .tc .vmem)} {hκ : sig.names .tc .vmem i = true} {f g : (sig.tyNear .tc .vmem i).Contents (Elt F)} (h : f = g)
    (fd : (sig.tyNear .tc .vmem i).Contents (Elt F)) :
    ((Memref.whole ⟨.vmem, i, hκ⟩ : Memref sig .tc _ _ _).view.loc (d : Thread nD τ) ↦[(Memref.whole ⟨.vmem, i, hκ⟩ : Memref sig .tc _ _ _).view.set]{fullShare}
        ((Memref.whole ⟨.vmem, i, hκ⟩ : Memref sig .tc _ _ _).view.write (Elt F) fd f Finset.univ)) ⊢ (bufP d ⟨.vmem, i, hκ⟩ g : sProp 𝕄) := by
  subst h
  rw [show (Memref.whole ⟨.vmem, i, hκ⟩ : Memref sig .tc _ _ _).view.set = Finset.univ from View.set_whole _,
    show (Memref.whole ⟨.vmem, i, hκ⟩ : Memref sig .tc _ _ _).view.write (Elt F) fd f Finset.univ = f from View.write_whole_univ _ _ _]
  exact .rfl
/-- What is sent at level `k` of the reduction is what the partner expects. -/
theorem rd_landed {k : ℕ} (hk : k < 4) (m : ℕ) (A : ℕ → Dev nD → Vec F S512x512 .f32) :
    rd (sn k c) m (A k c) = rd (kp (k + 1) (pr k c)) m (A k (pr k (pr k c))) := by rw [kp_pr hk, pr_pr hk]

/-- The first rows sent, the product on the rows kept, the first sum. -/
theorem part4_run (v28 v38 v81 : BitVec 32) :
    iprop(ctx X U V K ∗ owing c (oweDma c 8) ∗ toks c 0 0 ∗ landAny (pr 0 c) 0 ∗ accP c (Bk 0 c) (Contents.acc X U V 0 c) ∗ (∃ f, accP c (Kp 1 c) f) ∗ ins X U V c)
      ⊢ run c (k0_part4 (F := F) xM (Memref.isWhole_whole _) uM (Memref.isWhole_whole _) vM (Memref.isWhole_whole _) outM (Memref.isWhole_whole _) accM (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v28 v38 v81)
        (fun _ => iprop(owing c (oweDma c 7) ∗ sent c 0 0 ∗ semVal (dCell c 1 0) 0 ∗ landAny c 0 ∗ accP c (Kp 1 c) (Contents.acc X U V 1 c) ∗ ins X U V c)) := by
  rw [k0_part4_eq_skeleton]; unfold k0_part4_skel
  simp only [semSignalWord, semWaitWord, Prog.lift, Prog.bind_op, Prog.bind_ret, Prog.pure_eq_ret]
  unfold ctx ins toks sent
  iintro ⟨⟨#HR, #Hlev⟩, HO, ⟨Ha0, Hb0, Ht0, Hu0, Hd0⟩, Hl0, Hs0, ⟨%f, Hk⟩, ⟨Hx, Hu, Hv⟩⟩
  iapply (step_reduce _ _ K c (k := 0) (by decide) (dev5_eq c) (off2_eq c) rfl (Memref.whole cc0_scratch1) rfl rfl (credit_rows _ (by decide) rfl)
    (whole_any (pr 0 c)) (whole_landed (pr 0 c) (rd_landed c (by decide) _ _))) $$ [$HR $Hs0 $Hl0 $HO $Ht0 $Hu0]
  iintro ⟨Hc0, HO⟩
  iapply (step_part c (off3_eq c) (kp_one_or c) Contents.pay2_eq) $$ [$Hx $Hu $Hv $Hk]
  iintro ⟨Hx, Hu, Hv, Hk⟩
  iapply (step_wait _ _ K c (q := 1) (k := 0) (by decide) (by decide) (n := 7) (by decide) (lv_low c (.inl ⟨rfl, by decide⟩)) rfl (credit_rows _ (by decide) rfl)) $$ [$HR $Hlev $Hd0 $HO $Hb0]
  iintro ⟨HO, Hz0, Hl0⟩
  ihave Hl0 := (show dPay _ _ c 1 0 ⊢ bufP c cc0_scratch1 (rd (kp 1 c) 256 (Contents.acc X U V 0 (pr 0 c))) from .rfl) $$ Hl0
  iapply (step_fold c (off3_eq c) zeros (f := Contents.acc X U V 0 c) (g := rd (kp 1 c) 256 (Contents.acc X U V 0 (pr 0 c)))
    (Contents.acc X U V 1 c) (shapeCast_self _ _)) $$ [Hk Hl0]
  · isplitl [Hk]; · iexact Hk
    iexact Hl0
  iintro ⟨Hk, Hl0⟩
  ihave Hl0 := (show _ ⊢ landAny c 0 from buf_any c _) $$ Hl0
  ihave Hk := (show accP c (rows (kp 1 c) 256) (Contents.acc X U V 1 c) ⊢ accP c (Kp 1 c) (Contents.acc X U V 1 c) from .rfl) $$ Hk
  unfold run; rw [wp_ret]; imodintro
  iframe HO Ha0 Hc0 Hz0 Hx Hu Hv Hl0
  iexact Hk

/-- The second exchange. -/
theorem part5_run (v28 v48 v81 v133 : BitVec 32) :
    iprop(ctx X U V K ∗ owing c (oweDma c 7) ∗ toks c 0 1 ∗ landAny (pr 1 c) 1 ∗ accP c (Kp 1 c) (Contents.acc X U V 1 c))
      ⊢ run c (k0_part5 (F := F) xM (Memref.isWhole_whole _) uM (Memref.isWhole_whole _) vM (Memref.isWhole_whole _) outM (Memref.isWhole_whole _) accM (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v28 v48 v81 v133)
        (fun _ => iprop(owing c (oweDma c 6) ∗ sent c 0 1 ∗ semVal (dCell c 1 1) 0 ∗ landAny c 1 ∗ accP c (Kp 2 c) (Contents.acc X U V 2 c))) := by
  rw [k0_part5_eq_skeleton]; unfold k0_part5_skel
  simp only [semSignalWord, semWaitWord, Prog.lift, Prog.bind_op, Prog.bind_ret, Prog.pure_eq_ret]
  unfold ctx toks sent
  iintro ⟨⟨#HR, #Hlev⟩, HO, ⟨Ha1, Hb1, Ht1, Hu1, Hd1⟩, Hl1, Hk⟩
  ihave Hk := (acc_split (k := 1) (by decide) c _).1 $$ Hk
  icases Hk with ⟨Hk, Hs1⟩
  iapply (step_reduce _ _ K c (k := 1) (by decide) (dev6_eq c) (off4_eq c) rfl (Memref.whole cc0_scratch2) rfl rfl (credit_rows _ (by decide) rfl)
    (whole_any (pr 1 c)) (whole_landed (pr 1 c) (rd_landed c (by decide) _ _))) $$ [$HR $Hs1 $Hl1 $HO $Ht1 $Hu1]
  iintro ⟨Hc1, HO⟩
  iapply (step_wait _ _ K c (q := 1) (k := 1) (by decide) (by decide) (n := 6) (by decide) (lv_low c (.inl ⟨rfl, by decide⟩)) rfl (credit_rows _ (by decide) rfl)) $$ [$HR $Hlev $Hd1 $HO $Hb1]
  iintro ⟨HO, Hz1, Hl1⟩
  ihave Hl1 := (show dPay _ _ c 1 1 ⊢ bufP c cc0_scratch2 (rd (kp 2 c) 128 (Contents.acc X U V 1 (pr 1 c))) from .rfl) $$ Hl1
  iapply (step_fold c (off5_eq c) zeros (f := Contents.acc X U V 1 c) (g := rd (kp 2 c) 128 (Contents.acc X U V 1 (pr 1 c)))
    (Contents.acc X U V 2 c) (shapeCast_self _ _)) $$ [Hk Hl1]
  · isplitl [Hk]; · iexact Hk
    iexact Hl1
  iintro ⟨Hk, Hl1⟩
  ihave Hl1 := (show _ ⊢ landAny c 1 from buf_any c _) $$ Hl1
  ihave Hk := (show accP c (rows (kp 2 c) 128) (Contents.acc X U V 2 c) ⊢ accP c (Kp 2 c) (Contents.acc X U V 2 c) from .rfl) $$ Hk
  unfold run; rw [wp_ret]; imodintro
  iframe HO Ha1 Hc1 Hz1 Hl1
  iexact Hk

/-- The third exchange, and the rows sent in the fourth. -/
theorem part6_run (v28 v58 v68 v165 c1 : BitVec 32) :
    iprop(ctx X U V K ∗ owing c (oweDma c 6) ∗ toks c 0 2 ∗ landAny (pr 2 c) 2 ∗ toks c 0 3 ∗ landAny (pr 3 c) 3 ∗ accP c (Kp 2 c) (Contents.acc X U V 2 c))
      ⊢ run c (k0_part6 (F := F) xM (Memref.isWhole_whole _) uM (Memref.isWhole_whole _) vM (Memref.isWhole_whole _) outM (Memref.isWhole_whole _) accM (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v28 v58 v68 v165 c1)
        (fun _ => iprop(owing c (oweDma c 4) ∗ sent c 0 2 ∗ semVal (dCell c 1 2) 0 ∗ landAny c 2 ∗ sent c 0 3 ∗ sent c 1 3 ∗ accP c (Kp 4 c) (Contents.acc X U V 3 c))) := by
  rw [k0_part6_eq_skeleton]; unfold k0_part6_skel
  simp only [semSignalWord, semWaitWord, Prog.lift, Prog.bind_op, Prog.bind_ret, Prog.pure_eq_ret]
  unfold ctx toks sent
  iintro ⟨⟨#HR, #Hlev⟩, HO, ⟨Ha2, Hb2, Ht2, Hu2, Hd2⟩, Hl2, ⟨Ha3, Hb3, Ht3, Hu3, Hd3⟩, Hl3, Hk⟩
  ihave Hk := (acc_split (k := 2) (by decide) c _).1 $$ Hk
  icases Hk with ⟨Hk, Hs2⟩
  iapply (step_reduce _ _ K c (k := 2) (by decide) (dev7_eq c) (off6_eq c) rfl (Memref.whole cc0_scratch3) rfl rfl (credit_rows _ (by decide) rfl)
    (whole_any (pr 2 c)) (whole_landed (pr 2 c) (rd_landed c (by decide) _ _))) $$ [$HR $Hs2 $Hl2 $HO $Ht2 $Hu2]
  iintro ⟨Hc2, HO⟩
  iapply (step_wait _ _ K c (q := 1) (k := 2) (by decide) (by decide) (n := 5) (by decide) (lv_low c (.inl ⟨rfl, by decide⟩)) rfl (credit_rows _ (by decide) rfl)) $$ [$HR $Hlev $Hd2 $HO $Hb2]
  iintro ⟨HO, Hz2, Hl2⟩
  ihave Hl2 := (show dPay _ _ c 1 2 ⊢ bufP c cc0_scratch3 (rd (kp 3 c) 64 (Contents.acc X U V 2 (pr 2 c))) from .rfl) $$ Hl2
  iapply (step_fold c (off7_eq c) zeros (f := Contents.acc X U V 2 c) (g := rd (kp 3 c) 64 (Contents.acc X U V 2 (pr 2 c)))
    (Contents.acc X U V 3 c) (shapeCast_self _ _)) $$ [Hk Hl2]
  · isplitl [Hk]; · iexact Hk
    iexact Hl2
  iintro ⟨Hk, Hl2⟩
  ihave Hl2 := (show _ ⊢ landAny c 2 from buf_any c _) $$ Hl2
  ihave Hk := (show accP c (rows (kp 3 c) 64) (Contents.acc X U V 3 c) ⊢ accP c (Kp 3 c) (Contents.acc X U V 3 c) from .rfl) $$ Hk
  ihave Hk := (acc_split (k := 3) (by decide) c _).1 $$ Hk
  icases Hk with ⟨Hk, Hs3⟩
  iapply (step_reduce _ _ K c (k := 3) (by decide) (dev8_eq c) (off8_eq c) rfl (Memref.whole cc0_scratch4) rfl rfl (credit_rows _ (by decide) rfl)
    (whole_any (pr 3 c)) (whole_landed (pr 3 c) (rd_landed c (by decide) _ _))) $$ [$HR $Hs3 $Hl3 $HO $Ht3 $Hu3]
  iintro ⟨Hc3, HO⟩
  unfold run; rw [wp_ret]; imodintro
  iframe HO Ha2 Hc2 Hz2 Ha3 Hc3 Hb3 Hd3 Hl2
  iexact Hk

/-- The fourth sum, the last rows copied into the result and sent. -/
theorem part7_run (v28 v68 v192 : BitVec 32) :
    iprop(ctx X U V K ∗ owing c (oweDma c 4) ∗ sent c 1 3 ∗ accP c (Kp 4 c) (Contents.acc X U V 3 c) ∗ (∃ f, outP c (Kp 4 c) fullShare f) ∗ toks c 2 3 ∗ outAny c 3)
      ⊢ run c (k0_part7 (F := F) xM (Memref.isWhole_whole _) uM (Memref.isWhole_whole _) vM (Memref.isWhole_whole _) outM (Memref.isWhole_whole _) accM (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v28 v68 v192)
        (fun _ => iprop(owing c (oweDma c 3) ∗ semVal (dCell c 1 3) 0 ∗ landAny c 3 ∗ accP c (Kp 4 c) (Contents.acc X U V 4 c) ∗ sent c 2 3 ∗ sent c 3 3 ∗ outP c (Kp 4 c) (sh 2) (Contents.total X U V) ∗ outP c (Kp 4 c) (sh 1) (Contents.total X U V) ∗ outP c (Kp 4 c) (sh 0) (Contents.total X U V))) := by
  rw [k0_part7_eq_skeleton]; unfold k0_part7_skel
  simp only [semSignalWord, semWaitWord, Prog.lift, Prog.bind_op, Prog.bind_ret, Prog.pure_eq_ret]
  unfold ctx toks sent outAny
  iintro ⟨⟨#HR, #Hlev⟩, HO, ⟨Hb3, Hd3⟩, Hk, ⟨%f, Hn⟩, ⟨Ha3, He3, Ht3, Hu3, Hf3⟩, Ho3⟩
  iapply (step_wait _ _ K c (q := 1) (k := 3) (by decide) (by decide) (n := 4) (by decide) (lv_low c (.inl ⟨rfl, by decide⟩)) rfl (credit_rows _ (by decide) rfl)) $$ [$HR $Hlev $Hd3 $HO $Hb3]
  iintro ⟨HO, Hz3, Hl3⟩
  ihave Hl3 := (show dPay _ _ c 1 3 ⊢ bufP c cc0_scratch4 (rd (kp 4 c) 32 (Contents.acc X U V 3 (pr 3 c))) from .rfl) $$ Hl3
  iapply (step_fold c (off9_eq c) zeros (f := Contents.acc X U V 3 c) (g := rd (kp 4 c) 32 (Contents.acc X U V 3 (pr 3 c)))
    (Contents.acc X U V 4 c) (shapeCast_self _ _)) $$ [Hk Hl3]
  · isplitl [Hk]; · iexact Hk
    iexact Hl3
  iintro ⟨Hk, Hl3⟩
  ihave Hl3 := (show _ ⊢ landAny c 3 from buf_any c _) $$ Hl3
  ihave Hk := (show accP c (rows (kp 4 c) 32) (Contents.acc X U V 4 c) ⊢ accP c (Kp 4 c) (Contents.acc X U V 4 c) from .rfl) $$ Hk
  iapply (step_copy c (off9_eq c) (Contents.total X U V) (Contents.rd_total X U V c)) $$ [Hk Hn]
  · isplitl [Hk]; · iexact Hk
    iexact Hn
  iintro ⟨Hk, Hn⟩
  ihave Hn := (out_shares c _ _).1 $$ Hn
  icases Hn with ⟨Hk3, Hn2, Hn1, Hn0⟩
  iapply (step_gather _ _ K c (k := 3) (by decide) (dev9_eq c) (off10_eq c) rfl rfl rfl (credit_rows _ (by decide) rfl)) $$ [$HR $Hk3 $Ho3 $HO $Ht3 $Hu3]
  iintro ⟨Hc3, HO⟩
  unfold run; rw [wp_ret]; imodintro
  iframe HO Hz3 Ha3 Hc3 He3 Hf3 Hl3
  isplitl [Hk]; · iexact Hk
  isplitl [Hn2]; · iexact Hn2
  isplitl [Hn1]; · iexact Hn1
  iexact Hn0

/-- The two outer blocks of the result received and passed on. -/
theorem part8_run (v28 v48 v58 v192 v218 : BitVec 32) :
    iprop(ctx X U V K ∗ owing c (oweDma c 3) ∗ sent c 3 3 ∗ outP c (Kp 4 c) (sh 2) (Contents.total X U V) ∗ outP c (Kp 4 c) (sh 1) (Contents.total X U V) ∗ outP c (Kp 4 c) (sh 0) (Contents.total X U V) ∗ toks c 2 2 ∗ outAny c 2 ∗ toks c 2 1 ∗ outAny c 1)
      ⊢ run c (k0_part8 (F := F) xM (Memref.isWhole_whole _) uM (Memref.isWhole_whole _) vM (Memref.isWhole_whole _) outM (Memref.isWhole_whole _) accM (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v28 v48 v58 v192 v218)
        (fun _ => iprop(owing c (oweDma c 1) ∗ semVal (dCell c 3 3) 0 ∗ semVal (dCell c 3 2) 0 ∗ outP c (Bk 3 c) (sh 3) (Contents.total X U V) ∗ outP c (Bk 2 c) (sh 3) (Contents.total X U V) ∗ outP c (Bk 2 c) (sh 2) (Contents.total X U V) ∗ outP c (Kp 2 c) (sh 0) (Contents.total X U V) ∗ sent c 2 2 ∗ sent c 2 1 ∗ sent c 3 1)) := by
  rw [k0_part8_eq_skeleton]; unfold k0_part8_skel
  simp only [semSignalWord, semWaitWord, Prog.lift, Prog.bind_op, Prog.bind_ret, Prog.pure_eq_ret]
  unfold ctx toks sent outAny
  iintro ⟨⟨#HR, #Hlev⟩, HO, ⟨Hb3, Hd3⟩, Hk2, Hk1, Hk0, ⟨Ha2, Hb2, Ht2, Hu2, Hd2⟩, Ho2, ⟨Ha1, Hb1, Ht1, Hu1, Hd1⟩, Ho1⟩
  iapply (step_wait _ _ K c (q := 3) (k := 3) (by decide) (by decide) (n := 3) (by decide) (lv_low c (.inr ⟨rfl, by decide⟩)) rfl (credit_rows _ (by decide) rfl)) $$ [$HR $Hlev $Hd3 $HO $Hb3]
  iintro ⟨HO, Hz3, Hn⟩
  ihave Hn := (show dPay _ _ c 3 3 ⊢ outP c (Bk 3 c) fullShare (Contents.total X U V) from .rfl) $$ Hn
  ihave Hn := (out_shares c (Bk 3 c) _).1 $$ Hn
  icases Hn with ⟨H33, Hn2, Hn1, Hn0⟩
  ihave Hk2 := (out_split (k := 3) (by decide) c (sh 2) _).2 $$ [$Hk2 $Hn2]
  ihave Hk1 := (out_split (k := 3) (by decide) c (sh 1) _).2 $$ [$Hk1 $Hn1]
  ihave Hk0 := (out_split (k := 3) (by decide) c (sh 0) _).2 $$ [$Hk0 $Hn0]
  iapply (step_gather _ _ K c (k := 2) (by decide) (dev10_eq c) (off11_eq c) rfl rfl rfl (credit_rows _ (by decide) rfl)) $$ [$HR $Hk2 $Ho2 $HO $Ht2 $Hu2]
  iintro ⟨Hc2, HO⟩
  iapply (step_wait _ _ K c (q := 3) (k := 2) (by decide) (by decide) (n := 2) (by decide) (lv_low c (.inr ⟨rfl, by decide⟩)) rfl (credit_rows _ (by decide) rfl)) $$ [$HR $Hlev $Hd2 $HO $Hb2]
  iintro ⟨HO, Hz2, Hn⟩
  ihave Hn := (show dPay _ _ c 3 2 ⊢ outP c (Bk 2 c) fullShare (Contents.total X U V) from .rfl) $$ Hn
  ihave Hn := (out_shares c (Bk 2 c) _).1 $$ Hn
  icases Hn with ⟨H23, H22, Hn1, Hn0⟩
  ihave Hk1 := (out_split (k := 2) (by decide) c (sh 1) _).2 $$ [$Hk1 $Hn1]
  ihave Hk0 := (out_split (k := 2) (by decide) c (sh 0) _).2 $$ [$Hk0 $Hn0]
  iapply (step_gather _ _ K c (k := 1) (by decide) (dev11_eq c) (off12_eq c) rfl rfl rfl (credit_rows _ (by decide) rfl)) $$ [$HR $Hk1 $Ho1 $HO $Ht1 $Hu1]
  iintro ⟨Hc1, HO⟩
  unfold run; rw [wp_ret]; imodintro
  iframe HO Hz3 Hz2 H33 H23 H22 Hk0 Ha2 Hc2 Ha1 Hc1 Hb1 Hd1

/-- The two inner blocks, and the first two transfers waited for. -/
theorem part9_run (v38 v48 v252 v254 : BitVec 32) :
    iprop(ctx X U V K ∗ owing c (oweDma c 1) ∗ sent c 3 1 ∗ outP c (Kp 2 c) (sh 0) (Contents.total X U V) ∗ toks c 2 0 ∗ outAny c 0 ∗ sent c 0 0 ∗ sent c 0 1)
      ⊢ run c (k0_part9 (F := F) xM (Memref.isWhole_whole _) uM (Memref.isWhole_whole _) vM (Memref.isWhole_whole _) outM (Memref.isWhole_whole _) accM (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v38 v48 v252 v254)
        (fun _ => iprop(owing c (oweDma c 0) ∗ semVal (dCell c 3 1) 0 ∗ semVal (dCell c 3 0) 0 ∗ semVal (dCell c 0 0) 0 ∗ semVal (dCell c 0 1) 0 ∗ outP c (Bk 1 c) (sh 3) (Contents.total X U V) ∗ outP c (Bk 1 c) (sh 2) (Contents.total X U V) ∗ outP c (Bk 1 c) (sh 1) (Contents.total X U V) ∗ outP c (Bk 0 c) fullShare (Contents.total X U V) ∗ sent c 2 0 ∗ accP c (Bk 0 c) (Contents.acc X U V 0 c) ∗ accP c (Bk 1 c) (Contents.acc X U V 1 c))) := by
  rw [k0_part9_eq_skeleton]; unfold k0_part9_skel
  simp only [semSignalWord, semWaitWord, Prog.lift, Prog.bind_op, Prog.bind_ret, Prog.pure_eq_ret]
  unfold ctx toks sent outAny
  iintro ⟨⟨#HR, #Hlev⟩, HO, ⟨Hb1, Hd1⟩, Hk0, ⟨Ha0, Hb0, Ht0, Hu0, Hd0⟩, Ho0, ⟨Hb00, Hd00⟩, ⟨Hb01, Hd01⟩⟩
  iapply (step_wait _ _ K c (q := 3) (k := 1) (by decide) (by decide) (n := 1) (by decide) (lv_low c (.inr ⟨rfl, by decide⟩)) rfl (credit_rows _ (by decide) rfl)) $$ [$HR $Hlev $Hd1 $HO $Hb1]
  iintro ⟨HO, Hz1, Hn⟩
  ihave Hn := (show dPay _ _ c 3 1 ⊢ outP c (Bk 1 c) fullShare (Contents.total X U V) from .rfl) $$ Hn
  ihave Hn := (out_shares c (Bk 1 c) _).1 $$ Hn
  icases Hn with ⟨H13, H12, H11, Hn0⟩
  ihave Hk0 := (out_split (k := 1) (by decide) c (sh 0) _).2 $$ [$Hk0 $Hn0]
  iapply (step_gather _ _ K c (k := 0) (by decide) (dev12_eq c) (off13_eq c) rfl rfl rfl (credit_rows _ (by decide) rfl)) $$ [$HR $Hk0 $Ho0 $HO $Ht0 $Hu0]
  iintro ⟨Hc0, HO⟩
  iapply (step_wait _ _ K c (q := 3) (k := 0) (by decide) (by decide) (n := 0) (by decide) (lv_low c (.inr ⟨rfl, by decide⟩)) rfl (credit_rows _ (by decide) rfl)) $$ [$HR $Hlev $Hd0 $HO $Hb0]
  iintro ⟨HO, Hz0, Hn⟩
  ihave Hn := (show dPay _ _ c 3 0 ⊢ outP c (Bk 0 c) fullShare (Contents.total X U V) from .rfl) $$ Hn
  iapply (step_wait _ _ K c (q := 0) (k := 0) (by decide) (by decide) (n := 0) (by decide) (lv_send c (by decide) (by decide)) rfl (credit_rows _ (by decide) rfl)) $$ [$HR $Hlev $Hd00 $HO $Hb00]
  iintro ⟨HO, Hz00, Hn00⟩
  ihave Hn00 := (show dPay _ _ c 0 0 ⊢ accP c (Bk 0 c) (Contents.acc X U V 0 c) from .rfl) $$ Hn00
  iapply (step_wait _ _ K c (q := 0) (k := 1) (by decide) (by decide) (n := 0) (by decide) (lv_send c (by decide) (by decide)) rfl (credit_rows _ (by decide) rfl)) $$ [$HR $Hlev $Hd01 $HO $Hb01]
  iintro ⟨HO, Hz01, Hn01⟩
  ihave Hn01 := (show dPay _ _ c 0 1 ⊢ accP c (Bk 1 c) (Contents.acc X U V 1 c) from .rfl) $$ Hn01
  unfold run; rw [wp_ret]; imodintro
  iframe HO Hz1 Hz0 Hz00 Hz01 H13 H12 H11 Ha0 Hc0
  isplitl [Hn]; · iexact Hn
  isplitl [Hn00]; · iexact Hn00
  iexact Hn01

/-! ## The whole body -/

/-- One assertion per level. -/
def four (Φ : ℕ → sProp 𝕄) : sProp 𝕄 := iprop(Φ 0 ∗ Φ 1 ∗ Φ 2 ∗ Φ 3)

/-- What a device's body runs from, besides the records: what it owes, the rights and the credit of the barrier, its landing buffers and
    result holding anything, what it starts each level of both exchanges with, its inputs, its accumulator. -/
def before : sProp 𝕄 :=
  iprop(owing c (oweBar c 4) ∗ four (fun k => dutyTok ER (barCell (pr k c)) 0 k) ∗ cred (tallyAt (barCell c) () 4) ∗ atPos ER (barCell c) 0 ∅ 0
    ∗ four (landAny c) ∗ (∃ f, outP c (Kp 0 c) fullShare f) ∗ four (toks c 0) ∗ four (toks c 2) ∗ ins X U V c ∗ ∃ f, accP c (Kp 0 c) f)

/-- What it leaves: nothing owed, every counter at zero, its result the total. -/
def afterwards : sProp 𝕄 :=
  iprop(owing c (oweDma c 0) ∗ semVal (barCell c) 0
    ∗ (four (fun k => semVal (dCell c 0 k) 0) ∗ four (fun k => semVal (dCell c 1 k) 0) ∗ four (fun k => semVal (dCell c 2 k) 0) ∗ four (fun k => semVal (dCell c 3 k) 0))
    ∗ ins X U V c ∗ four (landAny c) ∗ (∃ f, accP c (Kp 0 c) f) ∗ outP c (Kp 0 c) fullShare (Contents.total X U V))

/-- A device's result, cut into the rows it gathers last to first and the rows of its own. -/
theorem out_cut : iprop(∃ f, outP c (Kp 0 c) fullShare f)
    ⊢ (iprop((∃ f, outP c (Kp 4 c) fullShare f) ∗ four (fun k => iprop(∃ f, outP c (Bk k c) fullShare f))) : sProp 𝕄) := by
  have h {k : ℕ} (hk : k < 4) : iprop(∃ f, outP c (Kp k c) fullShare f)
      ⊢ (iprop((∃ f, outP c (Kp (k + 1) c) fullShare f) ∗ ∃ f, outP c (Bk k c) fullShare f) : sProp 𝕄) := by
    iintro ⟨%f, H⟩
    ihave H := (out_split hk c fullShare f).1 $$ H
    icases H with ⟨H1, H2⟩
    isplitl [H1]
    · iexists f; iexact H1
    · iexists f; iexact H2
  unfold four
  iintro H
  ihave H := (h (k := 0) (by decide)) $$ H
  icases H with ⟨H, H0⟩
  ihave H := (h (k := 1) (by decide)) $$ H
  icases H with ⟨H, H1⟩
  ihave H := (h (k := 2) (by decide)) $$ H
  icases H with ⟨H, H2⟩
  ihave H := (h (k := 3) (by decide)) $$ H
  icases H with ⟨H, H3⟩
  isplitl [H]; · iexact H
  isplitl [H0]; · iexact H0
  isplitl [H1]; · iexact H1
  isplitl [H2]; · iexact H2
  iexact H3

theorem acc_cut : iprop(∃ f, accP c (Kp 0 c) f) ⊢ (iprop((∃ f, accP c (Kp 1 c) f) ∗ ∃ f, accP c (Bk 0 c) f) : sProp 𝕄) := by
  iintro ⟨%f, H⟩
  ihave H := (acc_split (k := 0) (by decide) c f).1 $$ H
  icases H with ⟨H1, H2⟩
  isplitl [H1]
  · iexists f; iexact H1
  · iexists f; iexact H2

/-- The accumulator whole again. -/
theorem acc_whole (f f' : ℕ → Vec F S512x512 .f32) :
    iprop(accP c (Kp 4 c) (f' 0) ∗ four (fun k => accP c (Bk k c) (f k))) ⊢ (iprop(∃ f, accP c (Kp 0 c) f) : sProp 𝕄) := by
  unfold four
  iintro ⟨H, H0, H1, H2, H3⟩
  ihave H := (show accP c (Kp 4 c) (f' 0) ⊢ iprop(∃ g, accP c (Kp (3 + 1) c) g) from by iintro H; iexists f' 0; iexact H) $$ H
  ihave H := (acc_join (k := 3) (by decide) c (f 3)) $$ [$H $H3]
  ihave H := (acc_join (k := 2) (by decide) c (f 2)) $$ [$H $H2]
  ihave H := (acc_join (k := 1) (by decide) c (f 1)) $$ [$H $H1]
  iapply (acc_join (k := 0) (by decide) c (f 0))
  isplitl [H]; · iexact H
  iexact H0

/-- The result whole again: the shares the four sends return, and the shares of the received rows that were not passed on. -/
theorem out_whole (R : Vec F S512x512 .f32) :
    iprop(four (fun k => outP c (Kp (k + 1) c) (sh k) R) ∗ outP c (Bk 3 c) (sh 3) R ∗ (outP c (Bk 2 c) (sh 3) R ∗ outP c (Bk 2 c) (sh 2) R)
        ∗ (outP c (Bk 1 c) (sh 3) R ∗ outP c (Bk 1 c) (sh 2) R ∗ outP c (Bk 1 c) (sh 1) R) ∗ outP c (Bk 0 c) fullShare R)
      ⊢ (outP c (Kp 0 c) fullShare R : sProp 𝕄) := by
  unfold four
  iintro ⟨⟨K0, K1, K2, K3⟩, B33, ⟨B23, B22⟩, ⟨B13, B12, B11⟩, B0⟩
  ihave K3 := (out_split (k := 3) (by decide) c (sh 3) R).2 $$ [$K3 $B33]
  ihave K3 := (out_split (k := 2) (by decide) c (sh 3) R).2 $$ [$K3 $B23]
  ihave K3 := (out_split (k := 1) (by decide) c (sh 3) R).2 $$ [$K3 $B13]
  ihave K2 := (out_split (k := 2) (by decide) c (sh 2) R).2 $$ [$K2 $B22]
  ihave K2 := (out_split (k := 1) (by decide) c (sh 2) R).2 $$ [$K2 $B12]
  ihave K1 := (out_split (k := 1) (by decide) c (sh 1) R).2 $$ [$K1 $B11]
  ihave H := (out_shares c (Kp 1 c) R).2 $$ [K0 K1 K2 K3]
  · isplitl [K3]; · iexact K3
    isplitl [K2]; · iexact K2
    isplitl [K1]; · iexact K1
    iexact K0
  iapply (out_split (k := 0) (by decide) c fullShare R).2
  isplitl [H]; · iexact H
  iexact B0

/-- The device's number and the words computed from it. -/
theorem part1_run {Q : (Σ' (d0 : Dev nD) (v28 : BitVec 32) (v33 : BitVec 32) (v36 : BitVec 32), BitVec 32) → sProp 𝕄} :
    iprop(∀ v28 v33 v36 w, Q ⟨c, v28, v33, v36, w⟩)
      ⊢ run c (k0_part1 (F := F) xM (Memref.isWhole_whole _) uM (Memref.isWhole_whole _) vM (Memref.isWhole_whole _) outM (Memref.isWhole_whole _) accM (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) Q := by
  rw [k0_part1_eq_skeleton]; unfold k0_part1_skel
  simp only [Prog.lift, Prog.bind_op, Prog.bind_ret, Prog.pure_eq_ret]
  unfold run
  rw [wp_deviceId, wp_ret]
  iintro H
  imodintro
  iapply H

/-- The first signal. -/
theorem part2_run (v28 v33 v36 w : BitVec 32) {Q : (Σ' (v38 : BitVec 32) (v48 : BitVec 32) (v58 : BitVec 32) (v68 : BitVec 32), Sems sig S_) → sProp 𝕄} :
    iprop(ctx X U V K ∗ owing c (oweBar c 4) ∗ dutyTok ER (barCell (pr 0 c)) 0 0 ∗ ready c 0)
      ⊢ iprop((owing c (oweBar c 3) -∗ ∀ v38 v48 v58 v68, Q ⟨v38, v48, v58, v68, SemArray.scalar (sig.barrier 0 rfl)⟩)
        -∗ run c (k0_part2 (F := F) xM (Memref.isWhole_whole _) uM (Memref.isWhole_whole _) vM (Memref.isWhole_whole _) outM (Memref.isWhole_whole _) accM (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v28 v33 v36 w) Q) := by
  rw [k0_part2_eq_skeleton]; unfold k0_part2_skel
  simp only [semSignalWord, Prog.lift, Prog.bind_op, Prog.bind_ret, Prog.pure_eq_ret]
  unfold ctx
  iintro ⟨⟨#HR, #Hlev⟩, HO, Ht, Hr⟩ Hk
  iapply (step_signal _ _ K c (k := 0) (by decide) (dev1_eq c) (by decide)) $$ [$HR $HO $Ht $Hr]
  iintro HO
  unfold run; rw [wp_ret]; imodintro
  ihave H := Hk $$ HO
  iapply H

/-- Everything but the last wait. -/
theorem part10_run :
    iprop(ctx X U V K ∗ before X U V c)
      ⊢ run c (k0_part10 (F := F) xM (Memref.isWhole_whole _) uM (Memref.isWhole_whole _) vM (Memref.isWhole_whole _) outM (Memref.isWhole_whole _) accM (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8)
        (fun d => iprop(⌜d = c⌝ ∗ owing c (oweDma c 0) ∗ sent c 2 0
          ∗ (owing c (oweDma c 0) ∗ semVal (dCell c 2 0) 0 ∗ outP c (Kp 1 c) (sh 0) (Contents.total X U V) -∗ afterwards X U V c))) := by
  rw [k0_part10_eq_skeleton]; unfold k0_part10_skel
  unfold before four
  iintro ⟨#Hctx, HO, ⟨Ht0, Ht1, Ht2, Ht3⟩, Hcb, Hab, ⟨Hl0, Hl1, Hl2, Hl3⟩, Hout, ⟨T00, T01, T02, T03⟩, ⟨T20, T21, T22, T23⟩, Hins, Hacc⟩
  ihave Hout := (out_cut c) $$ Hout
  unfold four
  icases Hout with ⟨Hout, Hb0, Hb1, Hb2, Hb3⟩
  ihave Hacc := (acc_cut c) $$ Hacc
  icases Hacc with ⟨Hk, Hs⟩
  unfold run
  rw [wp_bind]
  iapply (part1_run c)
  iintro %v28 %v33 %v36 %w
  dsimp only
  rw [wp_bind]
  iapply (part2_run X U V K c v28 v33 v36 w) $$ [$Hctx $HO $Ht0 Hl0 Hb0]
  · unfold ready
    isplitl [Hl0]; · iexact Hl0
    iexact Hb0
  iintro HO %v38 %v48 %v58 %v68
  dsimp only
  ihave R1 := (show iprop(landAny c 1 ∗ ∃ f, outP c (Bk 1 c) fullShare f) ⊢ ready c 1 from .rfl) $$ [$Hl1 $Hb1]
  ihave R2 := (show iprop(landAny c 2 ∗ ∃ f, outP c (Bk 2 c) fullShare f) ⊢ ready c 2 from .rfl) $$ [$Hl2 $Hb2]
  ihave R3 := (show iprop(landAny c 3 ∗ ∃ f, outP c (Bk 3 c) fullShare f) ⊢ ready c 3 from .rfl) $$ [$Hl3 $Hb3]
  iapply (run_bind c (part3_run X U V K c v28 v38 v48 v58 v68)) $$ [$Hctx $HO $Ht1 $Ht2 $Ht3 $R1 $R2 $R3 $Hcb $Hab $Hins $Hs]
  iintro %v81 ⟨HO, Hzb, P0, P1, P2, P3, Hins, Hs⟩
  ihave P0 := (Entails.of_eq (ready_eq c 0)) $$ P0
  icases P0 with ⟨D0, W0⟩
  ihave P1 := (Entails.of_eq (ready_eq c 1)) $$ P1
  icases P1 with ⟨D1, W1⟩
  ihave P2 := (Entails.of_eq (ready_eq c 2)) $$ P2
  icases P2 with ⟨D2, W2⟩
  ihave P3 := (Entails.of_eq (ready_eq c 3)) $$ P3
  icases P3 with ⟨D3, W3⟩
  iapply (run_bind c (part4_run X U V K c v28 v38 v81)) $$ [$Hctx $HO $T00 $D0 $Hs $Hk $Hins]
  iintro %v133 ⟨HO, S00, Z10, L0, Hk, Hins⟩
  iapply (run_bind c (part5_run X U V K c v28 v48 v81 v133)) $$ [$Hctx $HO $T01 $D1 $Hk]
  iintro %r5 ⟨HO, S01, Z11, L1, Hk⟩
  iapply (run_bind c (part6_run X U V K c v28 v58 v68 r5.1 r5.2)) $$ [$Hctx $HO $T02 $D2 $T03 $D3 $Hk]
  iintro %v192 ⟨HO, S02, Z12, L2, S03, S13, Hk⟩
  iapply (run_bind c (part7_run X U V K c v28 v68 v192)) $$ [$Hctx $HO $S13 $Hk $Hout $T23 $W3]
  iintro %v218 ⟨HO, Z13, L3, Hk, S23, S33, K2, K1, K0⟩
  iapply (run_bind c (part8_run X U V K c v28 v48 v58 v192 v218)) $$ [$Hctx $HO $S33 $K2 $K1 $K0 $T22 $W2 $T21 $W1]
  iintro %r8 ⟨HO, Z33, Z32, B33, B23, B22, K0, S22, S21, S31⟩
  iapply (run_bind c (part9_run X U V K c v38 v48 r8.1 r8.2)) $$ [$Hctx $HO $S31 $K0 $T20 $W0 $S00 $S01]
  iintro %u ⟨HO, Z31, Z30, Z00, Z01, B13, B12, B11, B0, S20, A0, A1⟩
  simp only [Prog.lift, Prog.bind_op, Prog.bind_ret, Prog.pure_eq_ret]
  unfold ctx
  icases Hctx with ⟨#HR, #Hlev⟩
  unfold sent
  icases S02 with ⟨A02, C02⟩
  iapply (step_wait _ _ K c (q := 0) (k := 2) (by decide) (by decide) (n := 0) (by decide) (lv_send c (by decide) (by decide)) rfl (credit_rows _ (by decide) rfl)) $$ [$HR $Hlev $C02 $HO $A02]
  iintro ⟨HO, Z02, A2⟩
  ihave A2 := (show dPay _ _ c 0 2 ⊢ accP c (Bk 2 c) (Contents.acc X U V 2 c) from .rfl) $$ A2
  icases S03 with ⟨A03, C03⟩
  iapply (step_wait _ _ K c (q := 0) (k := 3) (by decide) (by decide) (n := 0) (by decide) (lv_send c (by decide) (by decide)) rfl (credit_rows _ (by decide) rfl)) $$ [$HR $Hlev $C03 $HO $A03]
  iintro ⟨HO, Z03, A3⟩
  ihave A3 := (show dPay _ _ c 0 3 ⊢ accP c (Bk 3 c) (Contents.acc X U V 3 c) from .rfl) $$ A3
  icases S23 with ⟨A23, C23⟩
  iapply (step_wait _ _ K c (q := 2) (k := 3) (by decide) (by decide) (n := 0) (by decide) (lv_send c (by decide) (by decide)) rfl (credit_rows _ (by decide) rfl)) $$ [$HR $Hlev $C23 $HO $A23]
  iintro ⟨HO, Z23, K3⟩
  ihave K3 := (show dPay _ _ c 2 3 ⊢ outP c (Kp (3 + 1) c) (sh 3) (Contents.total X U V) from .rfl) $$ K3
  icases S22 with ⟨A22, C22⟩
  iapply (step_wait _ _ K c (q := 2) (k := 2) (by decide) (by decide) (n := 0) (by decide) (lv_send c (by decide) (by decide)) rfl (credit_rows _ (by decide) rfl)) $$ [$HR $Hlev $C22 $HO $A22]
  iintro ⟨HO, Z22, K2⟩
  ihave K2 := (show dPay _ _ c 2 2 ⊢ outP c (Kp (2 + 1) c) (sh 2) (Contents.total X U V) from .rfl) $$ K2
  icases S21 with ⟨A21, C21⟩
  iapply (step_wait _ _ K c (q := 2) (k := 1) (by decide) (by decide) (n := 0) (by decide) (lv_send c (by decide) (by decide)) rfl (credit_rows _ (by decide) rfl)) $$ [$HR $Hlev $C21 $HO $A21]
  iintro ⟨HO, Z21, K1⟩
  ihave K1 := (show dPay _ _ c 2 1 ⊢ outP c (Kp (1 + 1) c) (sh 1) (Contents.total X U V) from .rfl) $$ K1
  unfold run; rw [wp_ret]; imodintro
  isplitr; · ipureintro; rfl
  iframe HO S20
  iintro ⟨HO, Z20, K0⟩
  unfold afterwards four
  iframe HO Hzb Z00 Z01 Z02 Z03 Z10 Z11 Z12 Z13 Z20 Z21 Z22 Z23 Z30 Z31 Z32 Z33 Hins L0 L1 L2 L3
  isplitl [Hk A0 A1 A2 A3]
  · iapply (acc_whole c (fun k => Contents.acc X U V k c) (fun _ => Contents.acc X U V 4 c))
    unfold four
    iframe A0 A1 A2 A3
    iexact Hk
  · iapply (out_whole c (Contents.total X U V))
    unfold four
    iframe B33 B23 B22 B13 B12 B11 B0 K0 K1 K2
    iexact K3

/-- The body, from start to end. -/
theorem body_run :
    iprop(ctx X U V K ∗ before X U V c)
      ⊢ run c (cc0_body (F := F) xM (Memref.isWhole_whole _) uM (Memref.isWhole_whole _) vM (Memref.isWhole_whole _) outM (Memref.isWhole_whole _) accM (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8)
        (fun _ => afterwards X U V c) := by
  rw [cc0_body_eq_skeleton]; unfold cc0_body_skel
  iintro ⟨#Hctx, H⟩
  unfold run
  rw [wp_bind]
  ihave H := (part10_run X U V K c) $$ [$Hctx $H]
  iapply (wp_wand _ _ _) $$ H
  iintro %d ⟨%hd, HO, S20, Hk⟩
  subst hd
  simp only [Prog.lift, Prog.bind_op, Prog.bind_ret, Prog.pure_eq_ret]
  unfold ctx
  icases Hctx with ⟨#HR, #Hlev⟩
  unfold sent
  icases S20 with ⟨A20, C20⟩
  iapply (step_wait _ _ K d (q := 2) (k := 0) (by decide) (by decide) (n := 0) (by decide) (lv_send d (by decide) (by decide)) rfl (credit_rows _ (by decide) rfl)) $$ [$HR $Hlev $C20 $HO $A20]
  iintro ⟨HO, Z20, K0⟩
  ihave K0 := (show dPay _ _ d 2 0 ⊢ outP d (Kp 1 d) (sh 0) (Contents.total X U V) from .rfl) $$ K0
  unfold run; rw [wp_ret]; imodintro
  iapply Hk
  iframe HO Z20
  iexact K0

end Cert.Body
-- ==== Proof.Launch.lean ====
/-
# The launch

The exchanges set up for the sixteen devices at once — every semaphore's invariant allocated, every right to credit
a partner's semaphore carried to the device that uses it — and the kernel's run from the memory it is launched with.
-/
module

public import proofs.«01_k».proof.Proof.Body

@[expose] public section

noncomputable section

namespace Cert.Launch

open Cert.KernelIdeal Cert.KernelIdeal.Gen Cert.Cube Cert.Protocol Cert.Steps Cert.Body
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (l : Loc nD τ sig) → Buf (Elt F) l) (ρ : Dev nD → PrngReg)

/-! ## What the devices are given -/

/-- Device `c`'s blocks of the three arguments. -/
def xIn (c : Dev nD) : Vec F S512x512 .f32 := (win0_0.blk t0_0).view.read (Elt F) (m ((c : Thread nD τ).loc main_arg0))
def uIn (c : Dev nD) : Vec F S512x1024 .f32 := (win0_1.blk t0_0).view.read (Elt F) (m ((c : Thread nD τ).loc main_arg1))
def vIn (c : Dev nD) : Vec F S1024x512 .f32 := (win0_2.blk t0_0).view.read (Elt F) (m ((c : Thread nD τ).loc main_arg2))

/-- The result. -/
abbrev result : Vec F S512x512 .f32 := Contents.total (xIn m) (uIn m) (vIn m)
/-- The exchanges' schedule at these inputs. -/
abbrev plan : Rounds.Schedule (GSem nD τ sig) ℕ 𝕄 := sched (Contents.acc (xIn m) (uIn m) (vIn m)) (result m)

/-! ## What a device holds besides its windows -/

section Held

variable (c : Dev nD)

/-- The semaphores in five rows of four, the barrier making up the first, and the duty each place of a row stands for. -/
def rowSem : ℕ → ℕ → SemLoc sig
  | 0, _ => .reg barS
  | q + 1, k => .dma (ds q k)
def rowDuty : ℕ → ℕ → ℕ
  | 0, k => k
  | _ + 1, _ => 0
/-- The right to credit device `c`'s semaphore at a place. -/
def tok (c : Dev nD) (p k : ℕ) : sProp 𝕄 := dutyTok ER ((c : Thread nD τ), rowSem p k) 0 (rowDuty p k)
/-- Who uses it: the partner of the level, except for the send semaphores, which a device credits itself. -/
def user (p k : ℕ) (c : Dev nD) : Dev nD := if p = 1 ∨ p = 3 then c else pr k c
/-- The five rows. -/
abbrev five (Φ : ℕ → sProp 𝕄) : sProp 𝕄 := iprop(Φ 0 ∗ Φ 1 ∗ Φ 2 ∗ Φ 3 ∗ Φ 4)

/-- Every semaphore at its first round. -/
def positions : sProp 𝕄 := bigSep Finset.univ fun j : Fin 17 => atPos ER (kcell (c, j)) 0 ∅ 0
/-- What the launch gives device `c` of the exchanges, for itself alone. -/
def mine : sProp 𝕄 := iprop(positions c ∗ five fun p => four fun k => tok (user p k c) p k)
/-- What is owed to it. -/
def credits : sProp 𝕄 :=
  iprop(cred (tallyAt (barCell c) () 4) ∗ (four fun k => cred (tallyAt (dCell c 1 k) () (amt k))) ∗ four fun k => cred (tallyAt (dCell c 3 k) () (amt k)))
/-- What the body starts from. -/
def start : sProp 𝕄 :=
  iprop((∃ K, records (Contents.acc (xIn m) (uIn m) (vIn m)) (result m) K ∗ mine c) ∗ credits c ∗ levAts L lv)

/-- The scratch buffers, holding anything. -/
def scratch : sProp 𝕄 := iprop((∃ f, accP c (Kp 0 c) f) ∗ four (landAny (F := F) c))
/-- The seventeen counters at zero. -/
def counters : sProp 𝕄 := bigSep Finset.univ fun j : Fin 17 => semVal (kcell (c, j)) 0

def Φ₀ : sProp 𝕄 := iprop(start m c ∗ scratch c)
def Φ₁ : sProp 𝕄 := iprop(counters (F := F) c ∗ scratch c)

/-- Conjunctions regroup. -/
theorem assoc_eq (P Q R : sProp 𝕄) : iprop((P ∗ Q) ∗ R) = iprop(P ∗ Q ∗ R) := equiv_iff.mp ⟨BI.sep_assoc, BI.sep_assoc'⟩

/-- A property of the seventeen semaphores, the barrier's first, then four rows. -/
theorem seventeen (Φ : SemLoc sig → sProp 𝕄) :
    (bigSep Finset.univ fun j : Fin 17 => Φ (csem j))
      = iprop(Φ (.reg barS) ∗ (four fun k => Φ (.dma (ds 0 k))) ∗ (four fun k => Φ (.dma (ds 1 k)))
          ∗ (four fun k => Φ (.dma (ds 2 k))) ∗ four fun k => Φ (.dma (ds 3 k))) := by
  have e := bigSep_univ_eq_bigSepL (Φ := fun j : Fin 17 => Φ (csem j)) [0, 1, 2, 3, 4, 5, 6, 7, 8, 9, 10, 11, 12, 13, 14, 15, 16] (by decide) (by decide)
  refine e.trans (Eq.trans (b := iprop(Φ (.reg barS) ∗ Φ (.dma (ds 0 0)) ∗ Φ (.dma (ds 0 1)) ∗ Φ (.dma (ds 0 2)) ∗ Φ (.dma (ds 0 3))
    ∗ Φ (.dma (ds 1 0)) ∗ Φ (.dma (ds 1 1)) ∗ Φ (.dma (ds 1 2)) ∗ Φ (.dma (ds 1 3)) ∗ Φ (.dma (ds 2 0)) ∗ Φ (.dma (ds 2 1)) ∗ Φ (.dma (ds 2 2)) ∗ Φ (.dma (ds 2 3))
    ∗ Φ (.dma (ds 3 0)) ∗ Φ (.dma (ds 3 1)) ∗ Φ (.dma (ds 3 2)) ∗ Φ (.dma (ds 3 3)))) rfl ?_)
  simp only [four, assoc_eq]

theorem positions_eq : positions (F := F) c
    = iprop(atPos ER (barCell c) 0 ∅ 0 ∗ (four fun k => atPos ER (dCell c 0 k) 0 ∅ 0) ∗ (four fun k => atPos ER (dCell c 1 k) 0 ∅ 0)
        ∗ (four fun k => atPos ER (dCell c 2 k) 0 ∅ 0) ∗ four fun k => atPos ER (dCell c 3 k) 0 ∅ 0) :=
  seventeen fun s => atPos ER ((c : Thread nD τ), s) 0 ∅ 0
theorem counters_eq : counters (F := F) c
    = iprop(semVal (barCell c) 0 ∗ (four fun k => semVal (dCell c 0 k) 0) ∗ (four fun k => semVal (dCell c 1 k) 0)
        ∗ (four fun k => semVal (dCell c 2 k) 0) ∗ four fun k => semVal (dCell c 3 k) 0) :=
  seventeen fun s => semVal ((c : Thread nD τ), s) 0

theorem rows_eq : (five fun p => four fun k => tok (F := F) (user p k c) p k)
    = iprop((four fun k => dutyTok ER (barCell (pr k c)) 0 k) ∗ (four fun k => dutyTok ER (dCell c 0 k) 0 0) ∗ (four fun k => dutyTok ER (dCell (pr k c) 1 k) 0 0)
        ∗ (four fun k => dutyTok ER (dCell c 2 k) 0 0) ∗ four fun k => dutyTok ER (dCell (pr k c) 3 k) 0 0) := rfl

/-- The rights and credits, sorted by the levels of the two phases. -/
theorem sorted : iprop(mine (F := F) c ∗ credits c)
    ⊢ iprop(four (fun k => dutyTok ER (barCell (pr k c)) 0 k) ∗ cred (tallyAt (barCell c) () 4) ∗ atPos ER (barCell c) 0 ∅ 0
        ∗ four (toks c 0) ∗ four (toks c 2)) := by
  unfold mine credits
  rw [positions_eq, rows_eq]
  unfold four toks
  iintro ⟨⟨⟨HB, ⟨A00, A01, A02, A03⟩, ⟨A10, A11, A12, A13⟩, ⟨A20, A21, A22, A23⟩, ⟨A30, A31, A32, A33⟩⟩,
    TB, ⟨T00, T01, T02, T03⟩, ⟨T10, T11, T12, T13⟩, ⟨T20, T21, T22, T23⟩, ⟨T30, T31, T32, T33⟩⟩,
    CB, ⟨C10, C11, C12, C13⟩, ⟨C30, C31, C32, C33⟩⟩
  isplitl [TB]; · iexact TB
  iframe CB HB
  isplitl [A00 A01 A02 A03 A10 A11 A12 A13 T00 T01 T02 T03 T10 T11 T12 T13 C10 C11 C12 C13]
  · iframe A00 A01 A02 A03 A10 A11 A12 A13 T00 T01 T02 T03 T10 T11 T12 T13 C10 C11 C12
    iexact C13
  · iframe A20 A21 A22 A23 A30 A31 A32 A33 T20 T21 T22 T23 T30 T31 T32 T33 C30 C31 C32
    iexact C33

end Held

/-! ## The pipeline's data, and the body -/

/-- One point: the three input windows stay, the result's window ends at the total. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => uIn m c
    | ⟨2, _⟩ => vIn m c
    | ⟨3, _⟩ => result m
  Φ t := match t with
    | ⟨0, _⟩ => Φ₀ m c
    | ⟨_ + 1, _⟩ => Φ₁ c
  q _ := fullShare
  owed t := match t with
    | ⟨0, _⟩ => O₀ c
    | ⟨_ + 1, _⟩ => 0

theorem sep_eq {α : Type} (X : α) (Φ : α → sProp 𝕄) : iprop(∃ f, ⌜f = X⌝ ∗ Φ f) = Φ X := by
  have h1 : iprop(∃ f, ⌜f = X⌝ ∗ Φ f) ⊢ Φ X := by iintro ⟨%f, %h, H⟩; subst h; iexact H
  have h2 : Φ X ⊢ iprop(∃ f, ⌜f = X⌝ ∗ Φ f) := by
    iintro H; iexists X; isplitr; · ipureintro; rfl
    iexact H
  exact equiv_iff.mp ⟨h1, h2⟩

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = bufP c b X := by
  unfold owns bufP; simp only [Memref.view_whole, View.read_whole, View.set_whole]
  exact sep_eq X fun f => ((c : Thread nD τ).loc b) ↦{fullShare} f

theorem before_eq (c : Dev nD) (w : Fin 4) (h : (cfg0.win w).fetch t0_0 = true) (d) :
    (dats m ρ 0 c).before w t0_0 d = (dats m ρ 0 c).fetched w t0_0 d := by
  unfold Dat.before; rw [if_pos h]

/-- The result's window, and the accumulator, are whole buffers. -/
theorem out_all (c : Dev nD) (f : Vec F S512x512 .f32) : (outP c (Kp 0 c) fullShare f : sProp 𝕄) = bufP c cc0_stg3_0 f := by
  unfold outP bufP; rw [Kp_zero]
theorem acc_all (c : Dev nD) (f : Vec F S512x512 .f32) : (accP c (Kp 0 c) f : sProp 𝕄) = bufP c cc0_scratch0 f := by
  unfold accP bufP; rw [Kp_zero]

def bodyPre (c : Dev nD) : sProp 𝕄 :=
  iprop(Φ₀ m c ∗ (dats m ρ 0 c).owesAt () t0_0.castSucc
    ∗ (∃ d, bufP c cc0_stg0_0 ((dats m ρ 0 c).before (0 : Fin 4) t0_0 d)) ∗ (∃ d, bufP c cc0_stg1_0 ((dats m ρ 0 c).before (1 : Fin 4) t0_0 d))
    ∗ (∃ d, bufP c cc0_stg2_0 ((dats m ρ 0 c).before (2 : Fin 4) t0_0 d)) ∗ (∃ d, bufP c cc0_stg3_0 ((dats m ρ 0 c).before (3 : Fin 4) t0_0 d)))
def bodyPost (c : Dev nD) : sProp 𝕄 :=
  iprop(Φ₁ c ∗ (dats m ρ 0 c).owesAt () t0_0.succ
    ∗ bufP c cc0_stg0_0 (xIn m c) ∗ bufP c cc0_stg1_0 (uIn m c) ∗ bufP c cc0_stg2_0 (vIn m c) ∗ bufP c cc0_stg3_0 (result m))

theorem body_sound (c : Dev nD) : bodyPre m ρ c
    ⊢ run c (cc0_body (F := F) xM (Memref.isWhole_whole _) uM (Memref.isWhole_whole _) vM (Memref.isWhole_whole _) outM (Memref.isWhole_whole _) accM (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8)
        (fun _ => bodyPost m ρ c) := by
  unfold bodyPre Φ₀ start
  iintro ⟨⟨⟨⟨%K, #HR, Hown⟩, Hcr, #Hlev⟩, Hscr⟩, Ho, ⟨%d0, H0⟩, ⟨%d1, H1⟩, ⟨%d2, H2⟩, ⟨%d3, H3⟩⟩
  ihave Hs := (sorted c) $$ [$Hown $Hcr]
  icases Hs with ⟨HT, HC, HA, HK0, HK2⟩
  unfold scratch
  icases Hscr with ⟨Hacc, Hland⟩
  unfold Dat.owesAt Pipeline.owesWithin
  icases Ho with ⟨%W, %hW, HO⟩
  ihave H := (body_run (xIn m) (uIn m) (vIn m) K c) $$ [HT HC HA HK0 HK2 Hacc Hland HO H0 H1 H2 H3]
  · unfold ctx before ins
    isplitr
    · isplitr; · iexact HR
      iexact Hlev
    iframe HT HC HA HK0 HK2 Hacc Hland
    isplitl [HO]
    · unfold owing; iexists W; iexact HO
    isplitl [H3]
    · iexists _; rw [out_all]; iexact H3
    isplitl [H0]
    · iapply (Entails.of_eq (congrArg (bufP c cc0_stg0_0) (before_eq m ρ c 0 (by decide) d0))) $$ H0
    isplitl [H1]
    · iapply (Entails.of_eq (congrArg (bufP c cc0_stg1_0) (before_eq m ρ c 1 (by decide) d1))) $$ H1
    · iapply (Entails.of_eq (congrArg (bufP c cc0_stg2_0) (before_eq m ρ c 2 (by decide) d2))) $$ H2
  unfold run
  iapply (wp_wand _ _ _) $$ H
  iintro %u H
  unfold afterwards
  icases H with ⟨HO, HzB, Hz, Hins, Hland, Hacc, Hout⟩
  unfold owing
  icases HO with ⟨%W', HO⟩
  unfold bodyPost Φ₁ scratch ins
  rw [counters_eq]
  iframe HzB Hz Hland Hacc
  isplitl [HO]
  · iexists W'; isplitr; · ipureintro; exact fun _ _ => Or.inl trivial
    iexact HO
  icases Hins with ⟨H0, H1, H2⟩
  iframe H0 H1 H2
  iapply (Entails.of_eq (out_all c _)) $$ Hout

set_option maxRecDepth 4000 in
theorem body_obligation (c : Dev nD) : BodyObligation (dats m ρ 0 c) (defs₀ (F := F)) 𝒱₀ () Set.univ := fun t => by
  obtain rfl := fin_N0 t
  rw [bigSep_W0, bigSep_W0]
  simp only [owns_whole_eq]
  exact body_sound m ρ c

end Cert.Launch
-- ==== Proof.Run.lean ====
/-
# The kernel's run

The launch's shared element, the allocation of every semaphore's invariant, the rights carried to their users, what
each device is owed; then the run of the program on all devices, and what memory holds after it.
-/
module

public import proofs.«01_k».proof.Proof.Launch
public import Idealize.ShloMosaic.Lib.Pipeline.CollectiveSegs

@[expose] public section

noncomputable section

namespace Cert.Run

open Cert.KernelIdeal Cert.KernelIdeal.Gen Cert.Cube Cert.Protocol Cert.Steps Cert.Body Cert.Launch
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (l : Loc nD τ sig) → Buf (Elt F) l) (ρ : Dev nD → PrngReg)

/-! ## The launch's element -/

theorem kcell_injective : Function.Injective (kcell : Dev nD × Fin 17 → GSem nD τ sig) := by
  have hs : Function.Injective csem := by decide
  rintro ⟨c, j⟩ ⟨c', j'⟩ h
  have h1 : c = c' := congrArg (fun g : GSem nD τ sig => g.1.1) h
  have h2 : j = j' := hs (congrArg Prod.snd h)
  rw [h1, h2]
/-- All the devices' semaphores. -/
def cells : Finset (GSem nD τ sig) := Finset.univ.map ⟨kcell, kcell_injective⟩

/-- A right, by the device whose semaphore it credits and its place. -/
abbrev tokOf (x : Dev nD × Fin 5 × Fin 4) : GSem nD τ sig × ℕ × ℕ := (((x.1 : Thread nD τ), rowSem x.2.1 x.2.2), 0, rowDuty x.2.1 x.2.2)
theorem tokOf_injective : Function.Injective tokOf := by
  have hs : Function.Injective fun pk : Fin 5 × Fin 4 => (rowSem pk.1 pk.2, rowDuty pk.1 pk.2) := by decide
  rintro ⟨c, pk⟩ ⟨c', pk'⟩ h
  have h1 : c = c' := congrArg (fun g : GSem nD τ sig × ℕ × ℕ => g.1.1.1) h
  have h2 : pk = pk' := hs (congrArg (fun g : GSem nD τ sig × ℕ × ℕ => (g.1.2, g.2.2)) h)
  rw [h1, h2]
def rights : Finset (GSem nD τ sig × ℕ × ℕ) := Finset.univ.map ⟨tokOf, tokOf_injective⟩

def u₀ : UU := (initOf (Pipeline.cells cfgs cellOf_inj) (Pipeline.launchToks cfgs cellOf_inj), initOf cells rights)

/-- The rights to credit device `c`'s semaphores. -/
def minted (c : Dev nD) : sProp 𝕄 := five fun p => four fun k => tok c p k
/-- What the launch's element gives device `c`; -/
def G (c : Dev nD) : sProp 𝕄 :=
  iprop((bigSep Finset.univ fun j : Fin 17 => roundState ER (plan m) (kcell (c, j)) 0)
    ∗ (bigSep Finset.univ fun j : Fin 17 => iprop(atPos ER (kcell (c, j)) 0 ∅ 0 ∗ reached ER (kcell (c, j)) 0)) ∗ minted c)
/-- and what it holds once all invariants stand. -/
def G' (c : Dev nD) : sProp 𝕄 := iprop(∃ K, records (Contents.acc (xIn m) (uIn m) (vIn m)) (result m) K ∗ mine c)

theorem four_eq (Φ : ℕ → sProp 𝕄) : (bigSep Finset.univ fun k : Fin 4 => Φ k) = four Φ :=
  bigSep_univ_eq_bigSepL (Φ := fun k : Fin 4 => Φ k) [0, 1, 2, 3] (by decide) (by decide)
theorem five_eq (Φ : ℕ → sProp 𝕄) : (bigSep Finset.univ fun p : Fin 5 => Φ p) = five Φ :=
  bigSep_univ_eq_bigSepL (Φ := fun p : Fin 5 => Φ p) [0, 1, 2, 3, 4] (by decide) (by decide)

theorem fund : BI.own (ER (initOf cells rights)) ⊢ (|==> bigSep Finset.univ (G m) : sProp 𝕄) := by
  have hX (Φ : GSem nD τ sig → sProp 𝕄) : bigSep cells Φ = bigSep Finset.univ fun c : Dev nD => bigSep Finset.univ fun j : Fin 17 => Φ (kcell (c, j)) := by
    unfold cells; rw [bigSep_map, bigSep_univ_prod]; rfl
  have hT : bigSep rights (fun x => (dutyTok ER x.1 x.2.1 x.2.2 : sProp 𝕄)) = bigSep Finset.univ fun c : Dev nD => minted c := by
    unfold rights; rw [bigSep_map, bigSep_univ_prod]
    refine bigSep_congr fun c _ => ?_
    unfold minted; rw [← five_eq, bigSep_univ_prod]
    exact bigSep_congr fun p _ => four_eq fun k => tok c p k
  iintro HX
  imod (Rounds.fund ER (plan m) cells rights) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The invariants -/

/-- The kernel's own semaphores: all but the barrier's. -/
abbrev osem : Fin 16 → SemLoc sig := fun j => csem j.succ
theorem ownSemFacts : Pipeline.OwnSemFacts cfg0.spec osem := by decide

theorem sems_eq (c : Dev nD) :
    iprop(unscopedSems0 c ∗ Pipeline.ownSems0 (Ix := Unit) (Name := ℕ) (U := UU) (Lvl := ℕ) (Val := Elt F) (τ := τ) osem c) = (counters c : sProp 𝕄) := by
  rw [Pipeline.ownSems0_eq_of_list c osem [0, 1, 2, 3, 4, 5, 6, 7, 8, 9, 10, 11, 12, 13, 14, 15] (by decide) (by decide)]
  unfold unscopedSems0 counters
  rw [bigSep_eq_bigSepL_of_eq [SemLoc.reg barS] (by decide) (by decide),
    bigSep_univ_eq_bigSepL [0, 1, 2, 3, 4, 5, 6, 7, 8, 9, 10, 11, 12, 13, 14, 15, 16] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (plan m) κ (kcell (c, j))))
          ∗ (bigSep Finset.univ fun j => iprop(atPos ER (kcell (c, j)) 0 ∅ 0 ∗ reached ER (kcell (c, j)) 0)) ∗ minted c) := by
  unfold G
  iintro ⟨Hos, Hus, Hst, Hat, Htok⟩
  ihave Hv := (Entails.of_eq (sems_eq (F := F) c)) $$ [$Hus $Hos]
  unfold counters
  imod (show iprop((bigSep Finset.univ fun j : Fin 17 => semVal (kcell (c, j)) 0) ∗ bigSep Finset.univ fun j : Fin 17 => roundState ER (plan m) (kcell (c, j)) 0)
      ⊢ (|={Set.univ}=> bigSep Finset.univ fun j => iprop(∃ κ : ℕ, cellInv ER (plan m) κ (kcell (c, j))) : sProp 𝕄) from by
        rw [← bigSep_sep']
        exact (bigSep_mono fun j _ => (Rounds.body_intro ER (plan m) (kcell (c, j))).trans inv_alloc).trans (bigSep_fupd _ _)) $$ [Hv Hst] with Hinv
  · isplitl [Hv]; · iexact Hv
    iexact Hst
  imodintro
  iframe Hinv Hat Htok

/-! ## The rights to their users -/

theorem user_user {p k : ℕ} (hk : k < 4) (c : Dev nD) : user p k (user p k c) = c := by
  unfold user; by_cases h : p = 1 ∨ p = 3
  · rw [if_pos h, if_pos h]
  · rw [if_neg h, if_neg h, pr_pr hk]
theorem row_around (p : ℕ) {k : ℕ} (hk : k < 4) :
    (bigSep Finset.univ fun c : Dev nD => (tok c p k : sProp 𝕄)) = bigSep Finset.univ fun c : Dev nD => tok (user p k c) p k :=
  bigSep_univ_equiv (Function.Involutive.toPerm (user p k) (user_user hk)) fun c : Dev nD => (tok c p k : sProp 𝕄)

theorem four_sep (Φ : Dev nD → ℕ → sProp 𝕄) : (bigSep Finset.univ fun c : Dev nD => four (Φ c)) = four fun k => bigSep Finset.univ fun c => Φ c k := by
  unfold four; simp only [bigSep_sep']
theorem toks_around : (bigSep Finset.univ fun c : Dev nD => (minted c : sProp 𝕄)) = bigSep Finset.univ fun c : Dev nD => five fun p => four fun k => tok (user p k c) p k := by
  unfold minted five
  simp only [bigSep_sep', four_sep]
  unfold four
  simp only [row_around _ (show 0 < 4 by decide), row_around _ (show 1 < 4 by decide), row_around _ (show 2 < 4 by decide), row_around _ (show 3 < 4 by decide)]

theorem keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (plan m) κ (kcell (c, j))))
          ∗ (bigSep Finset.univ fun j => iprop(atPos ER (kcell (c, j)) 0 ∅ 0 ∗ reached ER (kcell (c, j)) 0)) ∗ minted c) : sProp 𝕄)
      ⊢ bigSep Finset.univ (G' m) := by
  rw [bigSep_sep', bigSep_sep', ← bigSep_univ_prod (fun cj : Dev nD × Fin 17 => iprop(∃ κ : ℕ, cellInv ER (plan m) κ (kcell cj))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun cj : Dev nD × Fin 17 => (reached ER (kcell cj) 0 : sProp 𝕄)), toks_around]
  iintro ⟨HI, ⟨Hat, #HR⟩, Htok⟩
  ihave HK := (BI.bigSep_exists_pi Finset.univ (fun (cj : Dev nD × Fin 17) (κ : ℕ) => (cellInv ER (plan m) κ (kcell cj) : sProp 𝕄))) $$ HI
  icases HK with ⟨%K, #HI⟩
  iapply (keep (R := records (Contents.acc (xIn m) (uIn m) (vIn m)) (result m) K) (Φ := mine) fun c _ => show _ ⊢ G' m c by
    unfold G'; iintro ⟨H, Ho⟩; iexists K; iframe H Ho)
  isplitr
  · unfold records; isplitl; · iexact HI
    iexact HR
  · iapply (Entails.of_eq (bigSep_sep' Finset.univ positions fun c : Dev nD => five fun p => four fun k => tok (user p k c) p k).symm)
    isplitl [Hat]; · iexact Hat
    iexact Htok

/-- All devices' invariants at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is owed to a device -/

section Credits

variable (c : Dev nD)

/-- All devices owing `O` and a unit more to a partner's semaphore, device `c` is owed what `O` makes and the unit. -/
theorem cred_peel {O O' : Dev nD → CellTallies nD τ sig Unit} {k : ℕ} (hk : k < 4) (sm : SemLoc sig) (n : ℕ)
    (h : ∀ d, O' d = O d + tallyAt ((pr k d : Thread nD τ), sm) () n) :
    (Pipeline.launchCred O' c : sProp 𝕄) ⊢ iprop(Pipeline.launchCred O c ∗ cred (tallyAt ((c : Thread nD τ), sm) () n)) := by
  rw [show O' = fun d => O d + tallyAt ((pr k d : Thread nD τ), sm) () n from funext h, Pipeline.launchCred_add]
  exact sep_mono_right (Pipeline.launchCred_tallyAt sm (pr k) (pr k) (pr_pr hk) (pr_pr hk) () n c)

theorem cred_bar {k : ℕ} (hk : k < 4) : (Pipeline.launchCred (fun d => oweBar d (4 - k)) c : sProp 𝕄)
    ⊢ iprop(Pipeline.launchCred (fun d => oweBar d (3 - k)) c ∗ cred (tallyAt (barCell c) () 1)) := cred_peel c hk _ _ (oweBar_peel hk)
theorem cred_reduce {k : ℕ} (hk : k < 4) : (Pipeline.launchCred (fun d => oweDma d (8 - k)) c : sProp 𝕄)
    ⊢ iprop(Pipeline.launchCred (fun d => oweDma d (7 - k)) c ∗ cred (tallyAt (dCell c 1 k) () (amt k))) := cred_peel c hk _ _ (oweDma_reduce hk)
theorem cred_gather {k : ℕ} (hk : k < 4) : (Pipeline.launchCred (fun d => oweDma d (k + 1)) c : sProp 𝕄)
    ⊢ iprop(Pipeline.launchCred (fun d => oweDma d k) c ∗ cred (tallyAt (dCell c 3 k) () (amt k))) := cred_peel c hk _ _ (oweDma_gather hk)

theorem cred_join (a b : ℕ) : iprop(cred (tallyAt (barCell c) () a) ∗ cred (tallyAt (barCell c) () b)) ⊢ (cred (tallyAt (barCell c) () (a + b)) : sProp 𝕄) := by
  rw [← tallyAt_add]; exact (cred_add _ _).2

theorem creds : (Pipeline.launchCred O₀ c : sProp 𝕄) ⊢ credits c := by
  unfold credits four
  iintro H
  ihave H := (show (Pipeline.launchCred O₀ c : sProp 𝕄) ⊢ Pipeline.launchCred (fun d => oweBar d (4 - 0)) c from .rfl) $$ H
  ihave H := (cred_bar c (k := 0) (by decide)) $$ H
  icases H with ⟨H, B0⟩
  ihave H := (cred_bar c (k := 1) (by decide)) $$ H
  icases H with ⟨H, B1⟩
  ihave H := (cred_bar c (k := 2) (by decide)) $$ H
  icases H with ⟨H, B2⟩
  ihave H := (cred_bar c (k := 3) (by decide)) $$ H
  icases H with ⟨H, B3⟩
  ihave H := (show (Pipeline.launchCred (fun d => oweBar d (3 - 3)) c : sProp 𝕄) ⊢ Pipeline.launchCred (fun d => oweDma d (8 - 0)) c from .rfl) $$ H
  ihave H := (cred_reduce c (k := 0) (by decide)) $$ H
  icases H with ⟨H, R0⟩
  ihave H := (cred_reduce c (k := 1) (by decide)) $$ H
  icases H with ⟨H, R1⟩
  ihave H := (cred_reduce c (k := 2) (by decide)) $$ H
  icases H with ⟨H, R2⟩
  ihave H := (cred_reduce c (k := 3) (by decide)) $$ H
  icases H with ⟨H, R3⟩
  ihave H := (cred_gather c (k := 3) (by decide)) $$ H
  icases H with ⟨H, G3⟩
  ihave H := (cred_gather c (k := 2) (by decide)) $$ H
  icases H with ⟨H, G2⟩
  ihave H := (cred_gather c (k := 1) (by decide)) $$ H
  icases H with ⟨H, G1⟩
  ihave H := (cred_gather c (k := 0) (by decide)) $$ H
  icases H with ⟨-, G0⟩
  ihave B := (cred_join c 1 1) $$ [$B0 $B1]
  ihave B := (cred_join c (1 + 1) 1) $$ [$B $B2]
  ihave B := (cred_join c (1 + 1 + 1) 1) $$ [$B $B3]
  isplitl [B]; · iexact B
  iframe R0 R1 R2 R3 G0 G1 G2
  iexact G3

end Credits

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  iframe HG Hc Hlev

theorem scratch_eq (c : Dev nD) : (scratch c : sProp 𝕄) = Pipeline.scopedRest cfg0.spec c := by
  have e : (Pipeline.scopedRest cfg0.spec c : sProp 𝕄) = _ := scopedRest0_eq c
  unfold scratch
  rw [e]
  simp only [acc_all]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  iframe Hs Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq, ← assoc_eq, sems_eq]
  unfold Φ₁
  iintro H; iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-- A window's array after the run. -/
def final (c : Dev nD) (w : Fin cfg0.W) : Buf (Elt F) ((cfg0.win w).arr.view.loc (c : Thread nD τ)) := (dats m ρ 0 c).arrAt w cfg0.N

set_option maxRecDepth 8000 in
/-- From any memory with zero counters every run terminates, with the windows' arrays at their final contents and every counter at zero. -/
theorem run_main : θ_run defs (onTc (τ := τ) (main (F := F))) (s₀ m ρ)
    (fun r => (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.Run
-- ==== Proof.Final.lean ====
/-
# What memory holds at the end, and the frames

The kernel's run (`Run.run_main`) says what the four arrays the windows read and write hold at the end.  The three
arguments are as they were; the fourth array is the result, the same on every device.  The three frame claims follow.
-/
module

public import proofs.«01_k».proof.Defs
public import proofs.«01_k».proof.Proof.Run
public import proofs.«01_k».proof.Proof.Gen.Kernel
public import proofs.«01_k».proof.Proof.Gen.KernelIdeal.Points
public import proofs.«01_k».proof.Proof.Gen.ReferenceIdeal.Run
public import Idealize.ShloMosaic.Lib.Quiescent

@[expose] public section

noncomputable section

namespace Cert.Final

open Cert.KernelIdeal Cert.KernelIdeal.Gen Cert.Launch Cert.Run
open Idealize.ShloMosaic
open Idealize.ShloMosaic.TcCoe
open Idealize.SL.Sem

variable {F : FTy → Type} [FloatOps F]
variable (m : (l : Loc nD τ sig) → Buf (Elt F) l) (ρ : Dev nD → PrngReg) (c : Dev nD)

/-! ## The windows' blocks are whole arrays -/

theorem xIn_eq : xIn m c = m ((c : Thread nD τ).loc main_arg0) := by
  have h : (fun a => win0_0.index t0_0 a * main_arg0.ty.shape.size a) = fun _ => 0 := funext fun a => by fin_cases a <;> decide
  exact Memref.read_access_unit_zero (Elt F) main_arg0 h (fun a => by rw [congrFun h a]; simp) _
theorem uIn_eq : uIn m c = m ((c : Thread nD τ).loc main_arg1) := by
  have h : (fun a => win0_1.index t0_0 a * main_arg1.ty.shape.size a) = fun _ => 0 := funext fun a => by fin_cases a <;> decide
  exact Memref.read_access_unit_zero (Elt F) main_arg1 h (fun a => by rw [congrFun h a]; simp) _
theorem vIn_eq : vIn m c = m ((c : Thread nD τ).loc main_arg2) := by
  have h : (fun a => win0_2.index t0_0 a * main_arg2.ty.shape.size a) = fun _ => 0 := funext fun a => by fin_cases a <;> decide
  exact Memref.read_access_unit_zero (Elt F) main_arg2 h (fun a => by rw [congrFun h a]; simp) _

/-! ## The result array -/

theorem flushed_eq (t : Fin cfg0.N) :
    (dats m ρ 0 c).flushed 3 t = ((cfg0.win 3).blk t).view.read (Elt F) (result m) := by
  obtain rfl := fin_N0 t
  have h : (fun a => win0_3.index t0_0 a * main_v1.ty.shape.size a) = fun _ => 0 := funext fun a => by fin_cases a <;> decide
  exact (Memref.read_access_unit_zero (Elt F) main_v1 h (fun a => by rw [congrFun h a]; simp) (result m)).symm

/-- The one block written back is the whole array. -/
theorem cover (i : S512x512.Idx) : ∃ t : Fin cfg0.N, (cfg0.win 3).flush t = true ∧ i ∈ ((cfg0.win 3).blk t).view.set := by
  refine ⟨t0_0, flush0_3 _, ?_⟩
  show i ∈ ((View.whole main_v1).slice (win0_3.rect t0_0)).set
  rw [View.set_slice_whole, Rect.mem_set_unit]
  have e : ∀ a : Fin 2, win0_3.index t0_0 a * win0_3.size a = 0 ∧ win0_3.xsize (grid0.coords t0_0) a = 512 := by decide +kernel
  intro a
  have ha : (i a).val < 512 := by match a with
    | ⟨0, _⟩ => exact (i 0).isLt
    | ⟨1, _⟩ => exact (i 1).isLt
  show win0_3.index t0_0 a * win0_3.size a ≤ (i a).val ∧ (i a).val < win0_3.index t0_0 a * win0_3.size a + win0_3.xsize (grid0.coords t0_0) a
  rw [(e a).1, (e a).2]; omega

theorem final_result : final m ρ c 3 = result m :=
  (dats m ρ 0 c).arrAt_eq_of_cover 3 (result m) (fun t _ => flushed_eq m ρ c t) cover

/-- The kernel's run, read: the result on every device, the arguments as they were, every counter at zero. -/
theorem run : θ_run defs (onTc (τ := τ) (main (F := F))) ⟨m, fun _ => 0, ρ⟩ fun r =>
    (∀ c : Dev nD,
      r.2.mem ((c : Thread nD τ).loc main_v1) = result m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0 :=
  (θ_run defs _ _).mono (fun _ h => ⟨fun c =>
    ⟨(h.1 c 3).trans (final_result m ρ c),
      (h.1 c 0).trans ((dats m ρ 0 c).arrAt_in 0 rfl _),
      (h.1 c 1).trans ((dats m ρ 0 c).arrAt_in 1 rfl _),
      (h.1 c 2).trans ((dats m ρ 0 c).arrAt_in 2 rfl _)⟩, h.2⟩) (run_main m ρ)

/-! ## The frames -/

/-- The arguments as they were and every counter at zero, for any float values. -/
theorem frame : θ_run defs (onTc (τ := τ) (main (F := F))) ⟨m, fun _ => 0, ρ⟩ fun r =>
    (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0 :=
  (θ_run defs _ _).mono (fun _ h => ⟨fun c => (h.1 c).2, h.2⟩) (run m ρ)

/-- The kernel is printed twice, once for each kind of float; the bodies called are the same, -/
theorem bodies_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl
theorem defs_eq : Cert.Kernel.defs (F := F) = Cert.KernelIdeal.defs (F := F) :=
  congrArg (Pipeline.defs Cert.KernelIdeal.pcfgs) bodies_eq

/-- so one run gives both frames. -/
theorem frame_kernel : Cert.quiescent_Kernel := fun m ρ _ => by
  unfold Cert.Kernel.main
  rw [defs_eq]
  exact frame (F := Bits) m ρ

theorem frame_ideal : Cert.quiescent_KernelIdeal := fun m ρ _ => frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Final
-- ==== Proof.Value.lean ====
/-
# The result is the reference's

Over the extended reals.  The reference's element is a sum over the 16384 hidden columns; each device's product is
the same sum over its own 1024 of them; and the four exchanges add the sixteen devices' products, each once.
Only that addition is commutative and associative is used.
-/
module

public import proofs.«01_k».proof.Proof.Final
public import Idealize.ShloMosaic.Lib.Layout
public import Idealize.ShloMosaic.Lib.MatmulPlain
public import Idealize.ShloMosaic.Lib.StackMember

@[expose] public section

noncomputable section

namespace Cert.Value

open Cert.KernelIdeal Cert.KernelIdeal.Gen Cert.Cube Cert.Contents Cert.Launch
open Idealize.ShloMosaic
open Idealize.ShloMosaic.TcCoe
open Idealize.ShloMosaic.ValueIdx
open Idealize.SL.Sem

/-- What hidden column `k` adds to element `(a, b)`, for `n` hidden columns in all. -/
def term {p n : ℕ} (x : FVec Ideal ⟨2, ![p, 512]⟩ .f32) (u : FVec Ideal ⟨2, ![512, n]⟩ .f32) (v : FVec Ideal ⟨2, ![n, 512]⟩ .f32)
    (a : Fin p) (b : Fin 512) (k : Fin n) : EReal :=
  max (∑ l : Fin 512, x (ix2 a l) * u (ix2 l k)) 0 * v (ix2 k b)

/-! ## One device's product -/

theorem pay_apply (x : Vec Ideal S256x512 .f32) (u : Vec Ideal S512x1024 .f32) (v : Vec Ideal S1024x512 .f32)
    (a : Fin 256) (b : Fin 512) : k0_pay1 x u v (ix2 a b) = ∑ k : Fin 1024, term x u v a b k := by
  unfold k0_pay1
  simp only [shapeCast_self]
  rw [show dot_S256x1024_S1024x512_S256x512_1_0_0_1_n_n = DotDims.plain 256 1024 512 from rfl,
    show dot_S256x512_S512x1024_S256x1024_1_0_0_1_n_n = DotDims.plain 256 512 1024 from rfl]
  simp only [matmul]
  rw [Ideal.matmul_plain_apply]
  have h0 : ∀ (s : Shape) (i : s.Idx), constant (F := Ideal) s .f32 0x00000000#32 i = 0 := fun _ _ => Ideal.ofBits_zero_f32
  rw [h0, zero_add]
  refine Finset.sum_congr rfl fun k _ => ?_
  unfold term
  rw [maximumf_apply, Ideal.matmul_plain_apply, h0, zero_add]
  congr 2
  exact Ideal.ofBits_zero_f32

theorem part_apply (x : Vec Ideal S512x512 .f32) (u : Vec Ideal S512x1024 .f32) (v : Vec Ideal S1024x512 .f32)
    (a b : Fin 512) : part x u v (ix2 a b) = ∑ k : Fin 1024, term x u v a b k := by
  have ei : iy a.val b.val = ix2 (n0 := 256) ⟨a.val % 256, Nat.mod_lt _ (by decide)⟩ b := by
    funext d
    match d with
    | ⟨0, _⟩ => rfl
    | ⟨1, _⟩ => exact Fin.ext (Nat.mod_eq_of_lt b.isLt)
  show k0_pay1 (rd (256 * (a.val / 256)) 256 x) u v (iy a.val b.val) = _
  rw [ei, pay_apply]
  refine Finset.sum_congr rfl fun k _ => ?_
  unfold term
  congr 2
  refine Finset.sum_congr rfl fun l _ => ?_
  congr 1
  show x (ix (256 * (a.val / 256) + a.val % 256) l.val) = _
  congr 1
  rw [Nat.div_add_mod]
  funext d
  match d with
  | ⟨0, _⟩ => exact Fin.ext (Nat.mod_eq_of_lt a.isLt)
  | ⟨1, _⟩ => exact Fin.ext (Nat.mod_eq_of_lt l.isLt)

/-! ## The exchanges add every device's product once -/

/-- The devices whose products device `c` has added after `k` exchanges. -/
def group : ℕ → Dev nD → Finset (Dev nD)
  | 0, c => {c}
  | k + 1, c => group k c ∪ group k (pr k c)

theorem group_disjoint : ∀ (k : Fin 4) (c : Dev nD), Disjoint (group k c) (group k (pr k c)) := by decide +kernel
theorem group_all : ∀ c : Dev nD, group 4 c = Finset.univ := by decide +kernel

variable (X : Dev nD → Vec Ideal S512x512 .f32) (U : Dev nD → Vec Ideal S512x1024 .f32) (V : Dev nD → Vec Ideal S1024x512 .f32)

theorem acc_apply (i : S512x512.Idx) : ∀ (k : ℕ) (_ : k ≤ 4) (c : Dev nD),
    acc X U V k c i = ∑ d ∈ group k c, part (X d) (U d) (V d) i
  | 0, _, c => (Finset.sum_singleton _ _).symm
  | k + 1, hk, c => by
    show acc X U V k c i + acc X U V k (pr k c) i = _
    rw [acc_apply i k (by omega), acc_apply i k (by omega)]
    exact (Finset.sum_union (group_disjoint ⟨k, by omega⟩ c)).symm

theorem total_apply (i : S512x512.Idx) : total X U V i = ∑ d : Dev nD, part (X d) (U d) (V d) i := by
  unfold total
  rw [acc_apply X U V i 4 le_rfl, group_all]

/-! ## The reference -/

/-- The reference's result. -/
abbrev expected (x : FVec Ideal S512x512 .f32) (u : FVec Ideal ⟨2, ![512, 16384]⟩ .f32) (v : FVec Ideal ⟨2, ![16384, 512]⟩ .f32) :
    Vec Ideal S512x512 .f32 :=
  Host.dotGeneral Cert.ReferenceIdeal.dot_S512x16384_S16384x512_S512x512_1_0_0_1_n_n none
    (maximumf (Host.dotGeneral Cert.ReferenceIdeal.dot_S512x512_S512x16384_S512x16384_1_0_0_1_n_n none x u)
      (broadcastInDim Cert.ReferenceIdeal.S512x16384 ![] Cert.ReferenceIdeal.Facts₀.bcast_S_S512x16384
        (constant Cert.ReferenceIdeal.S_ .f32 0x00000000#32))) v

theorem expected_apply (x : FVec Ideal S512x512 .f32) (u : FVec Ideal ⟨2, ![512, 16384]⟩ .f32) (v : FVec Ideal ⟨2, ![16384, 512]⟩ .f32)
    (a b : Fin 512) : expected x u v (ix2 a b) = ∑ k : Fin 16384, term x u v a b k := by
  unfold expected
  rw [show Cert.ReferenceIdeal.dot_S512x16384_S16384x512_S512x512_1_0_0_1_n_n = DotDims.plain 512 16384 512 from rfl,
    show Cert.ReferenceIdeal.dot_S512x512_S512x16384_S512x16384_1_0_0_1_n_n = DotDims.plain 512 512 16384 from rfl,
    StackMember.dotGeneral_plain_apply]
  refine Finset.sum_congr rfl fun k _ => ?_
  unfold term
  rw [maximumf_apply, StackMember.dotGeneral_plain_apply]
  congr 2
  exact Ideal.ofBits_zero_f32

/-! ## The two agree -/

/-- Hidden column `k` of device `d`, among all. -/
def column (d : Fin 16) (k : Fin 1024) : Fin 16384 := ⟨d.val * 1024 + k.val, by omega⟩

theorem sum_columns (f : Fin 16384 → EReal) : ∑ K, f K = ∑ d : Fin 16, ∑ k : Fin 1024, f (column d k) := by
  rw [← Fintype.sum_prod_type' (f := fun d k => f (column d k)),
    ← Equiv.sum_comp (finProdFinEquiv : Fin 16 × Fin 1024 ≃ Fin 16384) f]
  refine Finset.sum_congr rfl fun p _ => ?_
  congr 1
  apply Fin.ext
  show p.2.val + 1024 * p.1.val = p.1.val * 1024 + p.2.val
  omega

theorem block_u (d : Fin 16) (u : FVec Ideal ⟨2, ![512, 16384]⟩ .f32) (l : Fin 512) (k : Fin 1024) :
    Layout.block ⟨2, ![512, 1024]⟩ ⟨2, ![512, 16384]⟩ 1 16 d u (by decide) (ix2 l k) = u (ix2 l (column d k)) := by
  rw [Layout.block_apply]
  congr 1
  funext e
  match e with
  | ⟨0, _⟩ => rfl
  | ⟨1, _⟩ => rfl
theorem block_v (d : Fin 16) (v : FVec Ideal ⟨2, ![16384, 512]⟩ .f32) (k : Fin 1024) (b : Fin 512) :
    Layout.block ⟨2, ![1024, 512]⟩ ⟨2, ![16384, 512]⟩ 0 16 d v (by decide) (ix2 k b) = v (ix2 (column d k) b) := by
  rw [Layout.block_apply]
  congr 1
  funext e
  match e with
  | ⟨0, _⟩ => rfl
  | ⟨1, _⟩ => rfl

theorem total_eq_expected (x : FVec Ideal S512x512 .f32) (u : FVec Ideal ⟨2, ![512, 16384]⟩ .f32) (v : FVec Ideal ⟨2, ![16384, 512]⟩ .f32) :
    total (fun _ => x) (fun d => Layout.block ⟨2, ![512, 1024]⟩ ⟨2, ![512, 16384]⟩ 1 16 d u (by decide))
      (fun d => Layout.block ⟨2, ![1024, 512]⟩ ⟨2, ![16384, 512]⟩ 0 16 d v (by decide)) = expected x u v := by
  funext i
  obtain ⟨a, b, rfl⟩ : ∃ a b : Fin 512, i = ix2 a b := ⟨i 0, i 1, eq_ix2 i⟩
  rw [total_apply, expected_apply, sum_columns]
  refine Finset.sum_congr rfl fun d _ => ?_
  rw [part_apply]
  refine Finset.sum_congr rfl fun k _ => ?_
  unfold term
  rw [block_v]
  congr 2
  exact Finset.sum_congr rfl fun l _ => congrArg _ (block_u d u l k)

/-- The claim: from the same arrays, cut among the devices, every device ends with the reference's result. -/
theorem algebraic : Cert.algebraic_KernelIdeal_ReferenceIdeal := fun m ρ m' ρ' _ h => by
  have hr := Cert.ReferenceIdeal.Value.run (F := Ideal) m' ρ'
  generalize hx : m' (((0 : Dev Cert.ReferenceIdeal.nD).tc : Thread Cert.ReferenceIdeal.nD Cert.ReferenceIdeal.τ).loc Cert.ReferenceIdeal.main_arg0) = x at h
  generalize hu : m' (((0 : Dev Cert.ReferenceIdeal.nD).tc : Thread Cert.ReferenceIdeal.nD Cert.ReferenceIdeal.τ).loc Cert.ReferenceIdeal.main_arg1) = u at h
  generalize hv : m' (((0 : Dev Cert.ReferenceIdeal.nD).tc : Thread Cert.ReferenceIdeal.nD Cert.ReferenceIdeal.τ).loc Cert.ReferenceIdeal.main_arg2) = v at h
  have e : result m = expected x u v := by
    refine Eq.trans ?_ (total_eq_expected x u v)
    unfold result
    rw [show xIn m = fun _ => x from funext fun c => (Final.xIn_eq m c).trans (h c).1,
      show uIn m = fun d => Layout.block ⟨2, ![512, 1024]⟩ ⟨2, ![512, 16384]⟩ 1 16 d u (by decide) from funext fun c => (Final.uIn_eq m c).trans (h c).2.1,
      show vIn m = fun d => Layout.block ⟨2, ![1024, 512]⟩ ⟨2, ![16384, 512]⟩ 0 16 d v (by decide) from funext fun c => (Final.vIn_eq m c).trans (h c).2.2]
  refine ⟨expected x u v, ?_, ?_⟩
  · exact (θ_run Cert.KernelIdeal.defs _ _).mono (fun _ hk c => ⟨(hk.1 c).1.trans e, (hk.1 c).2⟩) (Final.run (F := Ideal) m ρ)
  · subst hx hu hv
    exact (θ_run Cert.ReferenceIdeal.defs _ _).mono (fun _ hk => hk 0) hr

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Final.frame_kernel, Cert.Final.frame_ideal, Cert.Final.frame_reference, trivial, Cert.Value.algebraic⟩

end Cert.Proof

end
